-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_t_finite [hPre_t_finite : Cert.Pre_t_finite.Facts] (m : (ℓ : Loc Cert.KernelIdeal.nD Cert.KernelIdeal.τ Cert.KernelIdeal.sig) → Buf (Elt Ideal) ℓ) : Prop :=
  ∀ c : Dev Cert.KernelIdeal.nD,
    (Cert.Pre_t_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_t_finite [hPre_t_finite : Cert.Pre_t_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_t_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_t_finite [hKernelIdeal : Cert.KernelIdeal.Facts] [hPre_t_finite : Cert.Pre_t_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_t_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_t_finite [hReferenceIdeal : Cert.ReferenceIdeal.Facts] [hPre_t_finite : Cert.Pre_t_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_t_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_t_finite [hKernelIdeal : Cert.KernelIdeal.Facts] [hReferenceIdeal : Cert.ReferenceIdeal.Facts] [hPre_t_finite : Cert.Pre_t_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_t_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_t_finite : Cert.Pre_t_finite.Facts),
    quiescent_Kernel (hKernel := hKernel)
    ∧ quiescent_KernelIdeal (hKernelIdeal := hKernelIdeal)
    ∧ quiescent_KernelIdeal_pre_t_finite (hKernelIdeal := hKernelIdeal) (hPre_t_finite := hPre_t_finite)
    ∧ quiescent_ReferenceIdeal (hReferenceIdeal := hReferenceIdeal)
    ∧ quiescent_ReferenceIdeal_pre_t_finite (hReferenceIdeal := hReferenceIdeal) (hPre_t_finite := hPre_t_finite)
    ∧ preserves_Kernel_KernelIdeal
    ∧ algebraic_KernelIdeal_ReferenceIdeal_pre_t_finite (hKernelIdeal := hKernelIdeal) (hReferenceIdeal := hReferenceIdeal) (hPre_t_finite := hPre_t_finite)
-- ==== Pre_t_finite.lean ====
abbrev S4x100000x64 : Shape := ⟨3, ![4, 100000, 64]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S4x100000x64 : S_.BroadcastsInDim S4x100000x64 (![] : Fin 0 → Fin S4x100000x64.rank)

variable [Facts]

def fn {F : FTy → Type} [FloatOps F] (main_arg0 : FVec F S4x100000x64 .f32) (main_arg1 : FVec F S4x100000x64 .f32) (main_arg2 : FVec F S128x64 .f32) (main_arg3 : FVec F S64 .f32) (main_arg4 : FVec F S64x64 .f32) (main_arg5 : FVec F S64 .f32) : IVec S4x100000x64 1 :=
  let main_cst : FVec F S_ .f32 := constant S_ .f32 0xFF800000#32
  let main_v0 : FVec F S4x100000x64 .f32 := broadcastInDim S4x100000x64 ![] bcast_S_S4x100000x64 main_cst
  let main_v1 : IVec S4x100000x64 1 := cmpf .ogt main_arg1 main_v0
  let main_cst_0 : FVec F S_ .f32 := constant S_ .f32 0x7F800000#32
  let main_v2 : FVec F S4x100000x64 .f32 := broadcastInDim S4x100000x64 ![] bcast_S_S4x100000x64 main_cst_0
  let main_v3 : IVec S4x100000x64 1 := cmpf .olt main_arg1 main_v2
  let main_v4 : IVec S4x100000x64 1 := andi main_v1 main_v3
  main_v4
-- ==== Kernel.lean ====
abbrev S4x100000x64 : Shape := ⟨3, ![4, 100000, 64]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S2x8000x64 : Shape := ⟨3, ![2, 8000, 64]⟩
abbrev S2 : Shape := ⟨1, ![2]⟩
abbrev S1 : Shape := ⟨1, ![1]⟩
abbrev S_ : Shape := ⟨0, ![]⟩
abbrev S1x8000x64 : Shape := ⟨3, ![1, 8000, 64]⟩
abbrev S8000x64 : Shape := ⟨2, ![8000, 64]⟩
abbrev S400000x64 : Shape := ⟨2, ![400000, 64]⟩

abbrev nBuf : Space → Nat
  | .hbm => 10
  | .vmem => 8
  | .smem => 0
  | _ => 0

abbrev bufTy : (tb : Table) → Fin (tcTables nBuf tb) → BufTy
  | .hbm, ⟨0, _⟩ => ⟨S4x100000x64, .f32⟩
  | .hbm, ⟨1, _⟩ => ⟨S4x100000x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S4x100000x64, .f32⟩
  | .hbm, ⟨9, _⟩ => ⟨S4x100000x64, .f32⟩
  | .local _ .vmem, ⟨0, _⟩ => ⟨S128x64, .f32⟩
  | .local _ .vmem, ⟨1, _⟩ => ⟨S1x64, .f32⟩
  | .local _ .vmem, ⟨2, _⟩ => ⟨S64x64, .f32⟩
  | .local _ .vmem, ⟨3, _⟩ => ⟨S1x64, .f32⟩
  | .local _ .vmem, ⟨4, _⟩ => ⟨S2x8000x64, .f32⟩
  | .local _ .vmem, ⟨5, _⟩ => ⟨S2x8000x64, .f32⟩
  | .local _ .vmem, ⟨6, _⟩ => ⟨S2x8000x64, .f32⟩
  | .local _ .vmem, ⟨7, _⟩ => ⟨S2x8000x64, .f32⟩
  | _, _ => ⟨S4x100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scoped0 : Ref sig .tc := ⟨.vmem, 4, rfl⟩
abbrev cc0_scoped2 : Ref sig .tc := ⟨.vmem, 5, rfl⟩
abbrev cc0_scoped4 : Ref sig .tc := ⟨.vmem, 6, rfl⟩
abbrev cc0_scoped6 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_21_r0 : BitVec 32 := 0#32
  let c2_i32_r0 : BitVec 32 := 2#32
  let v23_r0 : BitVec 32 := Scalar.remui c0_i32_21_r0 c2_i32_r0
  ![v23_r0.toNat]
def k0_off2 : Fin 3 → Nat :=
  let c0_i32_21_r0 : BitVec 32 := 0#32
  let c2_i32_r0 : BitVec 32 := 2#32
  let v23_r0 : BitVec 32 := Scalar.remui c0_i32_21_r0 c2_i32_r0
  let c0_i32_22_r0 : BitVec 32 := 0#32
  let c0_i32_23_r0 : BitVec 32 := 0#32
  ![v23_r0.toNat, 0, 0]
@[reducible] def k0_t1_loop : Scf.Loop 32 :=
  let c0_i32_43_r0 : BitVec 32 := 0#32
  let c50_i32_44_r0 : BitVec 32 := 50#32
  let v39_r0 : BitVec 32 := Scalar.addi c0_i32_43_r0 c50_i32_44_r0
  let c1_i32_45_r0 : BitVec 32 := 1#32
  ⟨c0_i32_43_r0, v39_r0, c1_i32_45_r0⟩
def k0_off3 (arg9_r0 : BitVec 32) : Fin 1 → Nat :=
  let c2_i32_164_r0 : BitVec 32 := 2#32
  let v251_r0 : BitVec 32 := Scalar.remui arg9_r0 c2_i32_164_r0
  ![v251_r0.toNat]
def k0_cond1 (k0_t1 : Fin k0_t1_loop.trips) (arg17_r0 : BitVec 32) : BitVec 1 :=
  let c0_i32_78_r0 : BitVec 32 := 0#32
  let v79_r0 : BitVec 32 := Scalar.addi arg17_r0 c0_i32_78_r0
  let true_85_r0 : BitVec 1 := 1#1
  let c1_i32_84_r0 : BitVec 32 := 1#32
  let v85_r0 : BitVec 32 := Scalar.addi arg17_r0 c1_i32_84_r0
  let v86_r0 : BitVec 32 := Scalar.select true_85_r0 v85_r0 arg17_r0
  let c50_i32_86_r0 : BitVec 32 := 50#32
  let v87_r0 : BitVec 1 := Scalar.cmpi .eq v86_r0 c50_i32_86_r0
  let c0_i32_87_r0 : BitVec 32 := 0#32
  let v88_r0 : BitVec 32 := Scalar.select v87_r0 c0_i32_87_r0 v86_r0
  let c0_i32_88_r0 : BitVec 32 := 0#32
  let v89_r0 : BitVec 32 := Scalar.addi v88_r0 c0_i32_88_r0
  let v95_r0 : BitVec 1 := Scalar.cmpi .ne v79_r0 v89_r0
  let c0_i32_43_r0 : BitVec 32 := 0#32
  let c1_i32_45_r0 : BitVec 32 := 1#32
  let arg8_r0 : BitVec 32 := Scf.iv c0_i32_43_r0 c1_i32_45_r0 k0_t1
  let c49_i32_94_r0 : BitVec 32 := 49#32
  let v96_r0 : BitVec 1 := Scalar.cmpi .sge arg8_r0 c49_i32_94_r0
  let true_95_r0 : BitVec 1 := 1#1
  let v97_r0 : BitVec 1 := Scalar.xori v96_r0 true_95_r0
  let v98_r0 : BitVec 1 := Scalar.andi v95_r0 v97_r0
  let true_96_r0 : BitVec 1 := 1#1
  let v99_r0 : BitVec 1 := Scalar.andi v98_r0 true_96_r0
  let v100_r0 : BitVec 32 := Scalar.extui v99_r0
  let c0_i32_97_r0 : BitVec 32 := 0#32
  let v101_r0 : BitVec 1 := Scalar.cmpi .ne v100_r0 c0_i32_97_r0
  v101_r0

def k0_off4 (arg9_r0 : BitVec 32) : Fin 3 → Nat :=
  let c2_i32_164_r0 : BitVec 32 := 2#32
  let v251_r0 : BitVec 32 := Scalar.remui arg9_r0 c2_i32_164_r0
  let c0_i32_166_r0 : BitVec 32 := 0#32
  let c0_i32_167_r0 : BitVec 32 := 0#32
  ![v251_r0.toNat, 0, 0]
def k0_off5 (arg17_r0 : BitVec 32) : Fin 2 → Nat :=
  let c8000_i32_165_r0 : BitVec 32 := 8000#32
  let true_85_r0 : BitVec 1 := 1#1
  let c1_i32_84_r0 : BitVec 32 := 1#32
  let v85_r0 : BitVec 32 := Scalar.addi arg17_r0 c1_i32_84_r0
  let v86_r0 : BitVec 32 := Scalar.select true_85_r0 v85_r0 arg17_r0
  let c50_i32_86_r0 : BitVec 32 := 50#32
  let v87_r0 : BitVec 1 := Scalar.cmpi .eq v86_r0 c50_i32_86_r0
  let c0_i32_87_r0 : BitVec 32 := 0#32
  let v88_r0 : BitVec 32 := Scalar.select v87_r0 c0_i32_87_r0 v86_r0
  let c0_i32_88_r0 : BitVec 32 := 0#32
  let v89_r0 : BitVec 32 := Scalar.addi v88_r0 c0_i32_88_r0
  let v252_r0 : BitVec 32 := Scalar.muli c8000_i32_165_r0 v89_r0
  let c0_i32_168_r0 : BitVec 32 := 0#32
  ![v252_r0.toNat, 0]
def k0_off6 (arg11_r0 : BitVec 32) : Fin 1 → Nat :=
  let c2_i32_164_r0 : BitVec 32 := 2#32
  let v251_r0 : BitVec 32 := Scalar.remui arg11_r0 c2_i32_164_r0
  ![v251_r0.toNat]
def k0_cond2 (k0_t1 : Fin k0_t1_loop.trips) (arg17_r0 : BitVec 32) : BitVec 1 :=
  let c0_i32_78_r0 : BitVec 32 := 0#32
  let v79_r0 : BitVec 32 := Scalar.addi arg17_r0 c0_i32_78_r0
  let true_85_r0 : BitVec 1 := 1#1
  let c1_i32_84_r0 : BitVec 32 := 1#32
  let v85_r0 : BitVec 32 := Scalar.addi arg17_r0 c1_i32_84_r0
  let v86_r0 : BitVec 32 := Scalar.select true_85_r0 v85_r0 arg17_r0
  let c50_i32_86_r0 : BitVec 32 := 50#32
  let v87_r0 : BitVec 1 := Scalar.cmpi .eq v86_r0 c50_i32_86_r0
  let c0_i32_87_r0 : BitVec 32 := 0#32
  let v88_r0 : BitVec 32 := Scalar.select v87_r0 c0_i32_87_r0 v86_r0
  let c0_i32_88_r0 : BitVec 32 := 0#32
  let v89_r0 : BitVec 32 := Scalar.addi v88_r0 c0_i32_88_r0
  let v105_r0 : BitVec 1 := Scalar.cmpi .ne v79_r0 v89_r0
  let c0_i32_43_r0 : BitVec 32 := 0#32
  let c1_i32_45_r0 : BitVec 32 := 1#32
  let arg8_r0 : BitVec 32 := Scf.iv c0_i32_43_r0 c1_i32_45_r0 k0_t1
  let c49_i32_100_r0 : BitVec 32 := 49#32
  let v106_r0 : BitVec 1 := Scalar.cmpi .sge arg8_r0 c49_i32_100_r0
  let true_101_r0 : BitVec 1 := 1#1
  let v107_r0 : BitVec 1 := Scalar.xori v106_r0 true_101_r0
  let v108_r0 : BitVec 1 := Scalar.andi v105_r0 v107_r0
  let true_102_r0 : BitVec 1 := 1#1
  let v109_r0 : BitVec 1 := Scalar.andi v108_r0 true_102_r0
  let v110_r0 : BitVec 32 := Scalar.extui v109_r0
  let c0_i32_103_r0 : BitVec 32 := 0#32
  let v111_r0 : BitVec 1 := Scalar.cmpi .ne v110_r0 c0_i32_103_r0
  v111_r0

def k0_off7 (arg11_r0 : BitVec 32) : Fin 3 → Nat :=
  let c2_i32_164_r0 : BitVec 32 := 2#32
  let v251_r0 : BitVec 32 := Scalar.remui arg11_r0 c2_i32_164_r0
  let c0_i32_166_r0 : BitVec 32 := 0#32
  let c0_i32_167_r0 : BitVec 32 := 0#32
  ![v251_r0.toNat, 0, 0]
def k0_off8 (arg17_r0 : BitVec 32) : Fin 2 → Nat :=
  let c8000_i32_165_r0 : BitVec 32 := 8000#32
  let true_85_r0 : BitVec 1 := 1#1
  let c1_i32_84_r0 : BitVec 32 := 1#32
  let v85_r0 : BitVec 32 := Scalar.addi arg17_r0 c1_i32_84_r0
  let v86_r0 : BitVec 32 := Scalar.select true_85_r0 v85_r0 arg17_r0
  let c50_i32_86_r0 : BitVec 32 := 50#32
  let v87_r0 : BitVec 1 := Scalar.cmpi .eq v86_r0 c50_i32_86_r0
  let c0_i32_87_r0 : BitVec 32 := 0#32
  let v88_r0 : BitVec 32 := Scalar.select v87_r0 c0_i32_87_r0 v86_r0
  let c0_i32_88_r0 : BitVec 32 := 0#32
  let v89_r0 : BitVec 32 := Scalar.addi v88_r0 c0_i32_88_r0
  let v252_r0 : BitVec 32 := Scalar.muli c8000_i32_165_r0 v89_r0
  let c0_i32_168_r0 : BitVec 32 := 0#32
  ![v252_r0.toNat, 0]
def k0_off9 (arg10_r0 : BitVec 32) : Fin 1 → Nat :=
  let c2_i32_165_r0 : BitVec 32 := 2#32
  let v252_r0 : BitVec 32 := Scalar.remui arg10_r0 c2_i32_165_r0
  ![v252_r0.toNat]
def k0_cond3 (k0_t1 : Fin k0_t1_loop.trips) (arg17_r0 : BitVec 32) : BitVec 1 :=
  let c0_i32_78_r0 : BitVec 32 := 0#32
  let v79_r0 : BitVec 32 := Scalar.addi arg17_r0 c0_i32_78_r0
  let true_80_r0 : BitVec 1 := 1#1
  let c1_i32_79_r0 : BitVec 32 := 1#32
  let v80_r0 : BitVec 32 := Scalar.subi arg17_r0 c1_i32_79_r0
  let v81_r0 : BitVec 32 := Scalar.select true_80_r0 v80_r0 arg17_r0
  let c_m1_i32_81_r0 : BitVec 32 := 4294967295#32
  let v82_r0 : BitVec 1 := Scalar.cmpi .eq v81_r0 c_m1_i32_81_r0
  let c49_i32_82_r0 : BitVec 32 := 49#32
  let v83_r0 : BitVec 32 := Scalar.select v82_r0 c49_i32_82_r0 v81_r0
  let c0_i32_83_r0 : BitVec 32 := 0#32
  let v84_r0 : BitVec 32 := Scalar.addi v83_r0 c0_i32_83_r0
  let v123_r0 : BitVec 1 := Scalar.cmpi .ne v79_r0 v84_r0
  let c0_i32_43_r0 : BitVec 32 := 0#32
  let c1_i32_45_r0 : BitVec 32 := 1#32
  let arg8_r0 : BitVec 32 := Scf.iv c0_i32_43_r0 c1_i32_45_r0 k0_t1
  let c0_i32_76_r0 : BitVec 32 := 0#32
  let v77_r0 : BitVec 1 := Scalar.cmpi .eq arg8_r0 c0_i32_76_r0
  let v124_r0 : BitVec 1 := Scalar.ori v123_r0 v77_r0
  let c0_i32_110_r0 : BitVec 32 := 0#32
  let v125_r0 : BitVec 1 := Scalar.cmpi .sge arg8_r0 c0_i32_110_r0
  let v126_r0 : BitVec 1 := Scalar.andi v124_r0 v125_r0
  let v127_r0 : BitVec 32 := Scalar.extui v126_r0
  let c0_i32_111_r0 : BitVec 32 := 0#32
  let v128_r0 : BitVec 1 := Scalar.cmpi .ne v127_r0 c0_i32_111_r0
  v128_r0

def k0_off10 (arg10_r0 : BitVec 32) : Fin 3 → Nat :=
  let c2_i32_165_r0 : BitVec 32 := 2#32
  let v252_r0 : BitVec 32 := Scalar.remui arg10_r0 c2_i32_165_r0
  let c0_i32_166_r0 : BitVec 32 := 0#32
  let c0_i32_167_r0 : BitVec 32 := 0#32
  ![v252_r0.toNat, 0, 0]
def k0_off11 (arg17_r0 : BitVec 32) : Fin 2 → Nat :=
  let c8000_i32_164_r0 : BitVec 32 := 8000#32
  let c0_i32_78_r0 : BitVec 32 := 0#32
  let v79_r0 : BitVec 32 := Scalar.addi arg17_r0 c0_i32_78_r0
  let v251_r0 : BitVec 32 := Scalar.muli c8000_i32_164_r0 v79_r0
  let c0_i32_168_r0 : BitVec 32 := 0#32
  ![v251_r0.toNat, 0]
def k0_off12 (arg12_r0 : BitVec 32) : Fin 1 → Nat :=
  let c2_i32_165_r0 : BitVec 32 := 2#32
  let v252_r0 : BitVec 32 := Scalar.remui arg12_r0 c2_i32_165_r0
  ![v252_r0.toNat]
def k0_cond4 (k0_t1 : Fin k0_t1_loop.trips) (arg17_r0 : BitVec 32) : BitVec 1 :=
  let c0_i32_78_r0 : BitVec 32 := 0#32
  let v79_r0 : BitVec 32 := Scalar.addi arg17_r0 c0_i32_78_r0
  let true_80_r0 : BitVec 1 := 1#1
  let c1_i32_79_r0 : BitVec 32 := 1#32
  let v80_r0 : BitVec 32 := Scalar.subi arg17_r0 c1_i32_79_r0
  let v81_r0 : BitVec 32 := Scalar.select true_80_r0 v80_r0 arg17_r0
  let c_m1_i32_81_r0 : BitVec 32 := 4294967295#32
  let v82_r0 : BitVec 1 := Scalar.cmpi .eq v81_r0 c_m1_i32_81_r0
  let c49_i32_82_r0 : BitVec 32 := 49#32
  let v83_r0 : BitVec 32 := Scalar.select v82_r0 c49_i32_82_r0 v81_r0
  let c0_i32_83_r0 : BitVec 32 := 0#32
  let v84_r0 : BitVec 32 := Scalar.addi v83_r0 c0_i32_83_r0
  let v129_r0 : BitVec 1 := Scalar.cmpi .ne v79_r0 v84_r0
  let c0_i32_43_r0 : BitVec 32 := 0#32
  let c1_i32_45_r0 : BitVec 32 := 1#32
  let arg8_r0 : BitVec 32 := Scf.iv c0_i32_43_r0 c1_i32_45_r0 k0_t1
  let c0_i32_76_r0 : BitVec 32 := 0#32
  let v77_r0 : BitVec 1 := Scalar.cmpi .eq arg8_r0 c0_i32_76_r0
  let v130_r0 : BitVec 1 := Scalar.ori v129_r0 v77_r0
  let c0_i32_112_r0 : BitVec 32 := 0#32
  let v131_r0 : BitVec 1 := Scalar.cmpi .sge arg8_r0 c0_i32_112_r0
  let v132_r0 : BitVec 1 := Scalar.andi v130_r0 v131_r0
  let v133_r0 : BitVec 32 := Scalar.extui v132_r0
  let c0_i32_113_r0 : BitVec 32 := 0#32
  let v134_r0 : BitVec 1 := Scalar.cmpi .ne v133_r0 c0_i32_113_r0
  v134_r0

def k0_off13 (arg12_r0 : BitVec 32) : Fin 3 → Nat :=
  let c2_i32_165_r0 : BitVec 32 := 2#32
  let v252_r0 : BitVec 32 := Scalar.remui arg12_r0 c2_i32_165_r0
  let c0_i32_166_r0 : BitVec 32 := 0#32
  let c0_i32_167_r0 : BitVec 32 := 0#32
  ![v252_r0.toNat, 0, 0]
def k0_off14 (arg17_r0 : BitVec 32) : Fin 2 → Nat :=
  let c8000_i32_164_r0 : BitVec 32 := 8000#32
  let c0_i32_78_r0 : BitVec 32 := 0#32
  let v79_r0 : BitVec 32 := Scalar.addi arg17_r0 c0_i32_78_r0
  let v251_r0 : BitVec 32 := Scalar.muli c8000_i32_164_r0 v79_r0
  let c0_i32_168_r0 : BitVec 32 := 0#32
  ![v251_r0.toNat, 0]
def k0_off15 (arg10_r0 : BitVec 32) : Fin 3 → Nat :=
  let c2_i32_118_r0 : BitVec 32 := 2#32
  let v147_r0 : BitVec 32 := Scalar.remui arg10_r0 c2_i32_118_r0
  let v151_r0 : Index := Scalar.indexCast v147_r0
  let c0_122_r0 : Index := 0#32
  let c0_123_r0 : Index := 0#32
  ![v151_r0.toNat, 0, 0]

def k0_chk2 (arg10_r0 : BitVec 32) : Prop :=
  (∀ a, (k0_off15 arg10_r0) a + S1x8000x64.size a ≤ S2x8000x64.size a)
theorem k0_off15_inb : ∀ (arg10_r0 : BitVec 32) (k0_hw2 : k0_chk2 arg10_r0), ∀ a, (k0_off15 arg10_r0) a + S1x8000x64.size a ≤ S2x8000x64.size a := fun arg10_r0 k0_hw2 => k0_hw2

def k0_off16 (arg12_r0 : BitVec 32) : Fin 3 → Nat :=
  let c2_i32_119_r0 : BitVec 32 := 2#32
  let v148_r0 : BitVec 32 := Scalar.remui arg12_r0 c2_i32_119_r0
  let v154_r0 : Index := Scalar.indexCast v148_r0
  let c0_124_r0 : Index := 0#32
  let c0_125_r0 : Index := 0#32
  ![v154_r0.toNat, 0, 0]

def k0_chk3 (arg12_r0 : BitVec 32) : Prop :=
  (∀ a, (k0_off16 arg12_r0) a + S1x8000x64.size a ≤ S2x8000x64.size a)
theorem k0_off16_inb : ∀ (arg12_r0 : BitVec 32) (k0_hw3 : k0_chk3 arg12_r0), ∀ a, (k0_off16 arg12_r0) a + S1x8000x64.size a ≤ S2x8000x64.size a := fun arg12_r0 k0_hw3 => k0_hw3

def k0_off17 (arg15_r0 : BitVec 32) : Fin 3 → Nat :=
  let c2_i32_121_r0 : BitVec 32 := 2#32
  let v150_r0 : BitVec 32 := Scalar.remui arg15_r0 c2_i32_121_r0
  let v176_r0 : Index := Scalar.indexCast v150_r0
  let c0_131_r0 : Index := 0#32
  let c0_132_r0 : Index := 0#32
  ![v176_r0.toNat, 0, 0]

def k0_chk4 (arg15_r0 : BitVec 32) : Prop :=
  (∀ a, (k0_off17 arg15_r0) a + S1x8000x64.size a ≤ S2x8000x64.size a)
theorem k0_off17_inb : ∀ (arg15_r0 : BitVec 32) (k0_hw4 : k0_chk4 arg15_r0), ∀ a, (k0_off17 arg15_r0) a + S1x8000x64.size a ≤ S2x8000x64.size a := fun arg15_r0 k0_hw4 => k0_hw4

def k0_off18 (arg13_r0 : BitVec 32) : Fin 3 → Nat :=
  let c2_i32_120_r0 : BitVec 32 := 2#32
  let v149_r0 : BitVec 32 := Scalar.remui arg13_r0 c2_i32_120_r0
  let v183_r0 : Index := Scalar.indexCast v149_r0
  let c0_133_r0 : Index := 0#32
  let c0_134_r0 : Index := 0#32
  ![v183_r0.toNat, 0, 0]

def k0_chk5 (arg13_r0 : BitVec 32) : Prop :=
  (∀ a, (k0_off18 arg13_r0) a + S1x8000x64.size a ≤ S2x8000x64.size a)
theorem k0_off18_inb : ∀ (arg13_r0 : BitVec 32) (k0_hw5 : k0_chk5 arg13_r0), ∀ a, (k0_off18 arg13_r0) a + S1x8000x64.size a ≤ S2x8000x64.size a := fun arg13_r0 k0_hw5 => k0_hw5

def k0_off19 (arg13_r0 : BitVec 32) : Fin 1 → Nat :=
  let c2_i32_164_r0 : BitVec 32 := 2#32
  let v251_r0 : BitVec 32 := Scalar.remui arg13_r0 c2_i32_164_r0
  ![v251_r0.toNat]
def k0_cond9 (k0_t1 : Fin k0_t1_loop.trips) (arg17_r0 : BitVec 32) : BitVec 1 :=
  let c0_i32_78_r0 : BitVec 32 := 0#32
  let v79_r0 : BitVec 32 := Scalar.addi arg17_r0 c0_i32_78_r0
  let true_85_r0 : BitVec 1 := 1#1
  let c1_i32_84_r0 : BitVec 32 := 1#32
  let v85_r0 : BitVec 32 := Scalar.addi arg17_r0 c1_i32_84_r0
  let v86_r0 : BitVec 32 := Scalar.select true_85_r0 v85_r0 arg17_r0
  let c50_i32_86_r0 : BitVec 32 := 50#32
  let v87_r0 : BitVec 1 := Scalar.cmpi .eq v86_r0 c50_i32_86_r0
  let c0_i32_87_r0 : BitVec 32 := 0#32
  let v88_r0 : BitVec 32 := Scalar.select v87_r0 c0_i32_87_r0 v86_r0
  let c0_i32_88_r0 : BitVec 32 := 0#32
  let v89_r0 : BitVec 32 := Scalar.addi v88_r0 c0_i32_88_r0
  let v197_r0 : BitVec 1 := Scalar.cmpi .ne v79_r0 v89_r0
  let c0_i32_43_r0 : BitVec 32 := 0#32
  let c1_i32_45_r0 : BitVec 32 := 1#32
  let arg8_r0 : BitVec 32 := Scf.iv c0_i32_43_r0 c1_i32_45_r0 k0_t1
  let c49_i32_77_r0 : BitVec 32 := 49#32
  let v78_r0 : BitVec 1 := Scalar.cmpi .eq arg8_r0 c49_i32_77_r0
  let v198_r0 : BitVec 1 := Scalar.ori v197_r0 v78_r0
  let v199_r0 : BitVec 32 := Scalar.extui v198_r0
  let c0_i32_138_r0 : BitVec 32 := 0#32
  let v200_r0 : BitVec 1 := Scalar.cmpi .ne v199_r0 c0_i32_138_r0
  v200_r0

def k0_off20 (arg17_r0 : BitVec 32) : Fin 2 → Nat :=
  let c8000_i32_165_r0 : BitVec 32 := 8000#32
  let c0_i32_78_r0 : BitVec 32 := 0#32
  let v79_r0 : BitVec 32 := Scalar.addi arg17_r0 c0_i32_78_r0
  let v252_r0 : BitVec 32 := Scalar.muli c8000_i32_165_r0 v79_r0
  let c0_i32_166_r0 : BitVec 32 := 0#32
  ![v252_r0.toNat, 0]
def k0_off21 (arg13_r0 : BitVec 32) : Fin 3 → Nat :=
  let c2_i32_164_r0 : BitVec 32 := 2#32
  let v251_r0 : BitVec 32 := Scalar.remui arg13_r0 c2_i32_164_r0
  let c0_i32_167_r0 : BitVec 32 := 0#32
  let c0_i32_168_r0 : BitVec 32 := 0#32
  ![v251_r0.toNat, 0, 0]
def k0_off22 (arg15_r0 : BitVec 32) : Fin 1 → Nat :=
  let c2_i32_164_r0 : BitVec 32 := 2#32
  let v251_r0 : BitVec 32 := Scalar.remui arg15_r0 c2_i32_164_r0
  ![v251_r0.toNat]
def k0_cond10 (k0_t1 : Fin k0_t1_loop.trips) (arg17_r0 : BitVec 32) : BitVec 1 :=
  let c0_i32_78_r0 : BitVec 32 := 0#32
  let v79_r0 : BitVec 32 := Scalar.addi arg17_r0 c0_i32_78_r0
  let true_85_r0 : BitVec 1 := 1#1
  let c1_i32_84_r0 : BitVec 32 := 1#32
  let v85_r0 : BitVec 32 := Scalar.addi arg17_r0 c1_i32_84_r0
  let v86_r0 : BitVec 32 := Scalar.select true_85_r0 v85_r0 arg17_r0
  let c50_i32_86_r0 : BitVec 32 := 50#32
  let v87_r0 : BitVec 1 := Scalar.cmpi .eq v86_r0 c50_i32_86_r0
  let c0_i32_87_r0 : BitVec 32 := 0#32
  let v88_r0 : BitVec 32 := Scalar.select v87_r0 c0_i32_87_r0 v86_r0
  let c0_i32_88_r0 : BitVec 32 := 0#32
  let v89_r0 : BitVec 32 := Scalar.addi v88_r0 c0_i32_88_r0
  let v204_r0 : BitVec 1 := Scalar.cmpi .ne v79_r0 v89_r0
  let c0_i32_43_r0 : BitVec 32 := 0#32
  let c1_i32_45_r0 : BitVec 32 := 1#32
  let arg8_r0 : BitVec 32 := Scf.iv c0_i32_43_r0 c1_i32_45_r0 k0_t1
  let c49_i32_77_r0 : BitVec 32 := 49#32
  let v78_r0 : BitVec 1 := Scalar.cmpi .eq arg8_r0 c49_i32_77_r0
  let v205_r0 : BitVec 1 := Scalar.ori v204_r0 v78_r0
  let v206_r0 : BitVec 32 := Scalar.extui v205_r0
  let c0_i32_141_r0 : BitVec 32 := 0#32
  let v207_r0 : BitVec 1 := Scalar.cmpi .ne v206_r0 c0_i32_141_r0
  v207_r0

def k0_off23 (arg17_r0 : BitVec 32) : Fin 2 → Nat :=
  let c8000_i32_165_r0 : BitVec 32 := 8000#32
  let c0_i32_78_r0 : BitVec 32 := 0#32
  let v79_r0 : BitVec 32 := Scalar.addi arg17_r0 c0_i32_78_r0
  let v252_r0 : BitVec 32 := Scalar.muli c8000_i32_165_r0 v79_r0
  let c0_i32_166_r0 : BitVec 32 := 0#32
  ![v252_r0.toNat, 0]
def k0_off24 (arg15_r0 : BitVec 32) : Fin 3 → Nat :=
  let c2_i32_164_r0 : BitVec 32 := 2#32
  let v251_r0 : BitVec 32 := Scalar.remui arg15_r0 c2_i32_164_r0
  let c0_i32_167_r0 : BitVec 32 := 0#32
  let c0_i32_168_r0 : BitVec 32 := 0#32
  ![v251_r0.toNat, 0, 0]
def k0_off25 (arg14_r0 : BitVec 32) : Fin 1 → Nat :=
  let c2_i32_164_r0 : BitVec 32 := 2#32
  let v251_r0 : BitVec 32 := Scalar.remui arg14_r0 c2_i32_164_r0
  ![v251_r0.toNat]
def k0_cond13 (k0_t1 : Fin k0_t1_loop.trips) (arg17_r0 : BitVec 32) : BitVec 1 :=
  let c0_i32_78_r0 : BitVec 32 := 0#32
  let v79_r0 : BitVec 32 := Scalar.addi arg17_r0 c0_i32_78_r0
  let true_80_r0 : BitVec 1 := 1#1
  let c1_i32_79_r0 : BitVec 32 := 1#32
  let v80_r0 : BitVec 32 := Scalar.subi arg17_r0 c1_i32_79_r0
  let v81_r0 : BitVec 32 := Scalar.select true_80_r0 v80_r0 arg17_r0
  let c_m1_i32_81_r0 : BitVec 32 := 4294967295#32
  let v82_r0 : BitVec 1 := Scalar.cmpi .eq v81_r0 c_m1_i32_81_r0
  let c49_i32_82_r0 : BitVec 32 := 49#32
  let v83_r0 : BitVec 32 := Scalar.select v82_r0 c49_i32_82_r0 v81_r0
  let c0_i32_83_r0 : BitVec 32 := 0#32
  let v84_r0 : BitVec 32 := Scalar.addi v83_r0 c0_i32_83_r0
  let v223_r0 : BitVec 1 := Scalar.cmpi .ne v79_r0 v84_r0
  let c0_i32_43_r0 : BitVec 32 := 0#32
  let c1_i32_45_r0 : BitVec 32 := 1#32
  let arg8_r0 : BitVec 32 := Scf.iv c0_i32_43_r0 c1_i32_45_r0 k0_t1
  let c0_i32_76_r0 : BitVec 32 := 0#32
  let v77_r0 : BitVec 1 := Scalar.cmpi .eq arg8_r0 c0_i32_76_r0
  let true_150_r0 : BitVec 1 := 1#1
  let v224_r0 : BitVec 1 := Scalar.xori v77_r0 true_150_r0
  let v225_r0 : BitVec 1 := Scalar.andi v223_r0 v224_r0
  let v226_r0 : BitVec 32 := Scalar.extui v225_r0
  let c0_i32_151_r0 : BitVec 32 := 0#32
  let v227_r0 : BitVec 1 := Scalar.cmpi .ne v226_r0 c0_i32_151_r0
  v227_r0

def k0_off26 (arg17_r0 : BitVec 32) : Fin 2 → Nat :=
  let c8000_i32_165_r0 : BitVec 32 := 8000#32
  let true_80_r0 : BitVec 1 := 1#1
  let c1_i32_79_r0 : BitVec 32 := 1#32
  let v80_r0 : BitVec 32 := Scalar.subi arg17_r0 c1_i32_79_r0
  let v81_r0 : BitVec 32 := Scalar.select true_80_r0 v80_r0 arg17_r0
  let c_m1_i32_81_r0 : BitVec 32 := 4294967295#32
  let v82_r0 : BitVec 1 := Scalar.cmpi .eq v81_r0 c_m1_i32_81_r0
  let c49_i32_82_r0 : BitVec 32 := 49#32
  let v83_r0 : BitVec 32 := Scalar.select v82_r0 c49_i32_82_r0 v81_r0
  let c0_i32_83_r0 : BitVec 32 := 0#32
  let v84_r0 : BitVec 32 := Scalar.addi v83_r0 c0_i32_83_r0
  let v252_r0 : BitVec 32 := Scalar.muli c8000_i32_165_r0 v84_r0
  let c0_i32_166_r0 : BitVec 32 := 0#32
  ![v252_r0.toNat, 0]
def k0_off27 (arg14_r0 : BitVec 32) : Fin 3 → Nat :=
  let c2_i32_164_r0 : BitVec 32 := 2#32
  let v251_r0 : BitVec 32 := Scalar.remui arg14_r0 c2_i32_164_r0
  let c0_i32_167_r0 : BitVec 32 := 0#32
  let c0_i32_168_r0 : BitVec 32 := 0#32
  ![v251_r0.toNat, 0, 0]
def k0_off28 (arg16_r0 : BitVec 32) : Fin 1 → Nat :=
  let c2_i32_164_r0 : BitVec 32 := 2#32
  let v251_r0 : BitVec 32 := Scalar.remui arg16_r0 c2_i32_164_r0
  ![v251_r0.toNat]
def k0_cond14 (k0_t1 : Fin k0_t1_loop.trips) (arg17_r0 : BitVec 32) : BitVec 1 :=
  let c0_i32_78_r0 : BitVec 32 := 0#32
  let v79_r0 : BitVec 32 := Scalar.addi arg17_r0 c0_i32_78_r0
  let true_80_r0 : BitVec 1 := 1#1
  let c1_i32_79_r0 : BitVec 32 := 1#32
  let v80_r0 : BitVec 32 := Scalar.subi arg17_r0 c1_i32_79_r0
  let v81_r0 : BitVec 32 := Scalar.select true_80_r0 v80_r0 arg17_r0
  let c_m1_i32_81_r0 : BitVec 32 := 4294967295#32
  let v82_r0 : BitVec 1 := Scalar.cmpi .eq v81_r0 c_m1_i32_81_r0
  let c49_i32_82_r0 : BitVec 32 := 49#32
  let v83_r0 : BitVec 32 := Scalar.select v82_r0 c49_i32_82_r0 v81_r0
  let c0_i32_83_r0 : BitVec 32 := 0#32
  let v84_r0 : BitVec 32 := Scalar.addi v83_r0 c0_i32_83_r0
  let v231_r0 : BitVec 1 := Scalar.cmpi .ne v79_r0 v84_r0
  let c0_i32_43_r0 : BitVec 32 := 0#32
  let c1_i32_45_r0 : BitVec 32 := 1#32
  let arg8_r0 : BitVec 32 := Scf.iv c0_i32_43_r0 c1_i32_45_r0 k0_t1
  let c0_i32_76_r0 : BitVec 32 := 0#32
  let v77_r0 : BitVec 1 := Scalar.cmpi .eq arg8_r0 c0_i32_76_r0
  let true_154_r0 : BitVec 1 := 1#1
  let v232_r0 : BitVec 1 := Scalar.xori v77_r0 true_154_r0
  let v233_r0 : BitVec 1 := Scalar.andi v231_r0 v232_r0
  let v234_r0 : BitVec 32 := Scalar.extui v233_r0
  let c0_i32_155_r0 : BitVec 32 := 0#32
  let v235_r0 : BitVec 1 := Scalar.cmpi .ne v234_r0 c0_i32_155_r0
  v235_r0

def k0_off29 (arg17_r0 : BitVec 32) : Fin 2 → Nat :=
  let c8000_i32_165_r0 : BitVec 32 := 8000#32
  let true_80_r0 : BitVec 1 := 1#1
  let c1_i32_79_r0 : BitVec 32 := 1#32
  let v80_r0 : BitVec 32 := Scalar.subi arg17_r0 c1_i32_79_r0
  let v81_r0 : BitVec 32 := Scalar.select true_80_r0 v80_r0 arg17_r0
  let c_m1_i32_81_r0 : BitVec 32 := 4294967295#32
  let v82_r0 : BitVec 1 := Scalar.cmpi .eq v81_r0 c_m1_i32_81_r0
  let c49_i32_82_r0 : BitVec 32 := 49#32
  let v83_r0 : BitVec 32 := Scalar.select v82_r0 c49_i32_82_r0 v81_r0
  let c0_i32_83_r0 : BitVec 32 := 0#32
  let v84_r0 : BitVec 32 := Scalar.addi v83_r0 c0_i32_83_r0
  let v252_r0 : BitVec 32 := Scalar.muli c8000_i32_165_r0 v84_r0
  let c0_i32_166_r0 : BitVec 32 := 0#32
  ![v252_r0.toNat, 0]
def k0_off30 (arg16_r0 : BitVec 32) : Fin 3 → Nat :=
  let c2_i32_164_r0 : BitVec 32 := 2#32
  let v251_r0 : BitVec 32 := Scalar.remui arg16_r0 c2_i32_164_r0
  let c0_i32_167_r0 : BitVec 32 := 0#32
  let c0_i32_168_r0 : BitVec 32 := 0#32
  ![v251_r0.toNat, 0, 0]

def k0_chk1 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) : Prop :=
  (∀ (k0_h1 : k0_cond1 k0_t1 arg17_r0 = 1#1), ∀ a, (k0_off3 arg9_r0) a + S1.size a ≤ S2.size a) ∧
  (∀ (k0_h1 : k0_cond1 k0_t1 arg17_r0 = 1#1), ∀ a, (k0_off4 arg9_r0) a + S1x8000x64.size a ≤ S2x8000x64.size a) ∧
  (∀ (k0_h1 : k0_cond1 k0_t1 arg17_r0 = 1#1), ∀ a, (k0_off5 arg17_r0) a + S8000x64.size a ≤ S400000x64.size a) ∧
  (∀ (k0_h2 : k0_cond2 k0_t1 arg17_r0 = 1#1), ∀ a, (k0_off6 arg11_r0) a + S1.size a ≤ S2.size a) ∧
  (∀ (k0_h2 : k0_cond2 k0_t1 arg17_r0 = 1#1), ∀ a, (k0_off7 arg11_r0) a + S1x8000x64.size a ≤ S2x8000x64.size a) ∧
  (∀ (k0_h2 : k0_cond2 k0_t1 arg17_r0 = 1#1), ∀ a, (k0_off8 arg17_r0) a + S8000x64.size a ≤ S400000x64.size a) ∧
  (∀ (k0_h3 : k0_cond3 k0_t1 arg17_r0 = 1#1), ∀ a, (k0_off9 arg10_r0) a + S1.size a ≤ S2.size a) ∧
  (∀ (k0_h3 : k0_cond3 k0_t1 arg17_r0 = 1#1), ∀ a, (k0_off10 arg10_r0) a + S1x8000x64.size a ≤ S2x8000x64.size a) ∧
  (∀ (k0_h3 : k0_cond3 k0_t1 arg17_r0 = 1#1), ∀ a, (k0_off11 arg17_r0) a + S8000x64.size a ≤ S400000x64.size a) ∧
  (∀ (k0_h4 : k0_cond4 k0_t1 arg17_r0 = 1#1), ∀ a, (k0_off12 arg12_r0) a + S1.size a ≤ S2.size a) ∧
  (∀ (k0_h4 : k0_cond4 k0_t1 arg17_r0 = 1#1), ∀ a, (k0_off13 arg12_r0) a + S1x8000x64.size a ≤ S2x8000x64.size a) ∧
  (∀ (k0_h4 : k0_cond4 k0_t1 arg17_r0 = 1#1), ∀ a, (k0_off14 arg17_r0) a + S8000x64.size a ≤ S400000x64.size a) ∧
  (∀ (k0_h9 : k0_cond9 k0_t1 arg17_r0 = 1#1), ∀ a, (k0_off19 arg13_r0) a + S1.size a ≤ S2.size a) ∧
  (∀ (k0_h9 : k0_cond9 k0_t1 arg17_r0 = 1#1), ∀ a, (k0_off20 arg17_r0) a + S8000x64.size a ≤ S400000x64.size a) ∧
  (∀ (k0_h9 : k0_cond9 k0_t1 arg17_r0 = 1#1), ∀ a, (k0_off21 arg13_r0) a + S1x8000x64.size a ≤ S2x8000x64.size a) ∧
  (∀ (k0_h10 : k0_cond10 k0_t1 arg17_r0 = 1#1), ∀ a, (k0_off22 arg15_r0) a + S1.size a ≤ S2.size a) ∧
  (∀ (k0_h10 : k0_cond10 k0_t1 arg17_r0 = 1#1), ∀ a, (k0_off23 arg17_r0) a + S8000x64.size a ≤ S400000x64.size a) ∧
  (∀ (k0_h10 : k0_cond10 k0_t1 arg17_r0 = 1#1), ∀ a, (k0_off24 arg15_r0) a + S1x8000x64.size a ≤ S2x8000x64.size a) ∧
  (∀ (k0_h13 : k0_cond13 k0_t1 arg17_r0 = 1#1), ∀ a, (k0_off25 arg14_r0) a + S1.size a ≤ S2.size a) ∧
  (∀ (k0_h13 : k0_cond13 k0_t1 arg17_r0 = 1#1), ∀ a, (k0_off26 arg17_r0) a + S8000x64.size a ≤ S400000x64.size a) ∧
  (∀ (k0_h13 : k0_cond13 k0_t1 arg17_r0 = 1#1), ∀ a, (k0_off27 arg14_r0) a + S1x8000x64.size a ≤ S2x8000x64.size a) ∧
  (∀ (k0_h14 : k0_cond14 k0_t1 arg17_r0 = 1#1), ∀ a, (k0_off28 arg16_r0) a + S1.size a ≤ S2.size a) ∧
  (∀ (k0_h14 : k0_cond14 k0_t1 arg17_r0 = 1#1), ∀ a, (k0_off29 arg17_r0) a + S8000x64.size a ≤ S400000x64.size a) ∧
  (∀ (k0_h14 : k0_cond14 k0_t1 arg17_r0 = 1#1), ∀ a, (k0_off30 arg16_r0) a + S1x8000x64.size a ≤ S2x8000x64.size a)
theorem k0_off3_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h1 : k0_cond1 k0_t1 arg17_r0 = 1#1), ∀ a, (k0_off3 arg9_r0) a + S1.size a ≤ S2.size a := fun k0_t1 arg9_r0 arg10_r0 arg11_r0 arg12_r0 arg13_r0 arg14_r0 arg15_r0 arg16_r0 arg17_r0 k0_hw1 k0_h1 => k0_hw1.1 k0_h1
theorem k0_off4_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h1 : k0_cond1 k0_t1 arg17_r0 = 1#1), ∀ a, (k0_off4 arg9_r0) a + S1x8000x64.size a ≤ S2x8000x64.size a := fun k0_t1 arg9_r0 arg10_r0 arg11_r0 arg12_r0 arg13_r0 arg14_r0 arg15_r0 arg16_r0 arg17_r0 k0_hw1 k0_h1 => k0_hw1.2.1 k0_h1
theorem k0_off5_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h1 : k0_cond1 k0_t1 arg17_r0 = 1#1), ∀ a, (k0_off5 arg17_r0) a + S8000x64.size a ≤ S400000x64.size a := fun k0_t1 arg9_r0 arg10_r0 arg11_r0 arg12_r0 arg13_r0 arg14_r0 arg15_r0 arg16_r0 arg17_r0 k0_hw1 k0_h1 => k0_hw1.2.2.1 k0_h1
theorem k0_off6_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h2 : k0_cond2 k0_t1 arg17_r0 = 1#1), ∀ a, (k0_off6 arg11_r0) a + S1.size a ≤ S2.size a := fun k0_t1 arg9_r0 arg10_r0 arg11_r0 arg12_r0 arg13_r0 arg14_r0 arg15_r0 arg16_r0 arg17_r0 k0_hw1 k0_h2 => k0_hw1.2.2.2.1 k0_h2
theorem k0_off7_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h2 : k0_cond2 k0_t1 arg17_r0 = 1#1), ∀ a, (k0_off7 arg11_r0) a + S1x8000x64.size a ≤ S2x8000x64.size a := fun k0_t1 arg9_r0 arg10_r0 arg11_r0 arg12_r0 arg13_r0 arg14_r0 arg15_r0 arg16_r0 arg17_r0 k0_hw1 k0_h2 => k0_hw1.2.2.2.2.1 k0_h2
theorem k0_off8_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h2 : k0_cond2 k0_t1 arg17_r0 = 1#1), ∀ a, (k0_off8 arg17_r0) a + S8000x64.size a ≤ S400000x64.size a := fun k0_t1 arg9_r0 arg10_r0 arg11_r0 arg12_r0 arg13_r0 arg14_r0 arg15_r0 arg16_r0 arg17_r0 k0_hw1 k0_h2 => k0_hw1.2.2.2.2.2.1 k0_h2
theorem k0_off9_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h3 : k0_cond3 k0_t1 arg17_r0 = 1#1), ∀ a, (k0_off9 arg10_r0) a + S1.size a ≤ S2.size a := fun k0_t1 arg9_r0 arg10_r0 arg11_r0 arg12_r0 arg13_r0 arg14_r0 arg15_r0 arg16_r0 arg17_r0 k0_hw1 k0_h3 => k0_hw1.2.2.2.2.2.2.1 k0_h3
theorem k0_off10_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h3 : k0_cond3 k0_t1 arg17_r0 = 1#1), ∀ a, (k0_off10 arg10_r0) a + S1x8000x64.size a ≤ S2x8000x64.size a := fun k0_t1 arg9_r0 arg10_r0 arg11_r0 arg12_r0 arg13_r0 arg14_r0 arg15_r0 arg16_r0 arg17_r0 k0_hw1 k0_h3 => k0_hw1.2.2.2.2.2.2.2.1 k0_h3
theorem k0_off11_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h3 : k0_cond3 k0_t1 arg17_r0 = 1#1), ∀ a, (k0_off11 arg17_r0) a + S8000x64.size a ≤ S400000x64.size a := fun k0_t1 arg9_r0 arg10_r0 arg11_r0 arg12_r0 arg13_r0 arg14_r0 arg15_r0 arg16_r0 arg17_r0 k0_hw1 k0_h3 => k0_hw1.2.2.2.2.2.2.2.2.1 k0_h3
theorem k0_off12_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h4 : k0_cond4 k0_t1 arg17_r0 = 1#1), ∀ a, (k0_off12 arg12_r0) a + S1.size a ≤ S2.size a := fun k0_t1 arg9_r0 arg10_r0 arg11_r0 arg12_r0 arg13_r0 arg14_r0 arg15_r0 arg16_r0 arg17_r0 k0_hw1 k0_h4 => k0_hw1.2.2.2.2.2.2.2.2.2.1 k0_h4
theorem k0_off13_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h4 : k0_cond4 k0_t1 arg17_r0 = 1#1), ∀ a, (k0_off13 arg12_r0) a + S1x8000x64.size a ≤ S2x8000x64.size a := fun k0_t1 arg9_r0 arg10_r0 arg11_r0 arg12_r0 arg13_r0 arg14_r0 arg15_r0 arg16_r0 arg17_r0 k0_hw1 k0_h4 => k0_hw1.2.2.2.2.2.2.2.2.2.2.1 k0_h4
theorem k0_off14_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h4 : k0_cond4 k0_t1 arg17_r0 = 1#1), ∀ a, (k0_off14 arg17_r0) a + S8000x64.size a ≤ S400000x64.size a := fun k0_t1 arg9_r0 arg10_r0 arg11_r0 arg12_r0 arg13_r0 arg14_r0 arg15_r0 arg16_r0 arg17_r0 k0_hw1 k0_h4 => k0_hw1.2.2.2.2.2.2.2.2.2.2.2.1 k0_h4
theorem k0_off19_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h9 : k0_cond9 k0_t1 arg17_r0 = 1#1), ∀ a, (k0_off19 arg13_r0) a + S1.size a ≤ S2.size a := fun k0_t1 arg9_r0 arg10_r0 arg11_r0 arg12_r0 arg13_r0 arg14_r0 arg15_r0 arg16_r0 arg17_r0 k0_hw1 k0_h9 => k0_hw1.2.2.2.2.2.2.2.2.2.2.2.2.1 k0_h9
theorem k0_off20_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h9 : k0_cond9 k0_t1 arg17_r0 = 1#1), ∀ a, (k0_off20 arg17_r0) a + S8000x64.size a ≤ S400000x64.size a := fun k0_t1 arg9_r0 arg10_r0 arg11_r0 arg12_r0 arg13_r0 arg14_r0 arg15_r0 arg16_r0 arg17_r0 k0_hw1 k0_h9 => k0_hw1.2.2.2.2.2.2.2.2.2.2.2.2.2.1 k0_h9
theorem k0_off21_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h9 : k0_cond9 k0_t1 arg17_r0 = 1#1), ∀ a, (k0_off21 arg13_r0) a + S1x8000x64.size a ≤ S2x8000x64.size a := fun k0_t1 arg9_r0 arg10_r0 arg11_r0 arg12_r0 arg13_r0 arg14_r0 arg15_r0 arg16_r0 arg17_r0 k0_hw1 k0_h9 => k0_hw1.2.2.2.2.2.2.2.2.2.2.2.2.2.2.1 k0_h9
theorem k0_off22_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h10 : k0_cond10 k0_t1 arg17_r0 = 1#1), ∀ a, (k0_off22 arg15_r0) a + S1.size a ≤ S2.size a := fun k0_t1 arg9_r0 arg10_r0 arg11_r0 arg12_r0 arg13_r0 arg14_r0 arg15_r0 arg16_r0 arg17_r0 k0_hw1 k0_h10 => k0_hw1.2.2.2.2.2.2.2.2.2.2.2.2.2.2.2.1 k0_h10
theorem k0_off23_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h10 : k0_cond10 k0_t1 arg17_r0 = 1#1), ∀ a, (k0_off23 arg17_r0) a + S8000x64.size a ≤ S400000x64.size a := fun k0_t1 arg9_r0 arg10_r0 arg11_r0 arg12_r0 arg13_r0 arg14_r0 arg15_r0 arg16_r0 arg17_r0 k0_hw1 k0_h10 => k0_hw1.2.2.2.2.2.2.2.2.2.2.2.2.2.2.2.2.1 k0_h10
theorem k0_off24_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h10 : k0_cond10 k0_t1 arg17_r0 = 1#1), ∀ a, (k0_off24 arg15_r0) a + S1x8000x64.size a ≤ S2x8000x64.size a := fun k0_t1 arg9_r0 arg10_r0 arg11_r0 arg12_r0 arg13_r0 arg14_r0 arg15_r0 arg16_r0 arg17_r0 k0_hw1 k0_h10 => k0_hw1.2.2.2.2.2.2.2.2.2.2.2.2.2.2.2.2.2.1 k0_h10
theorem k0_off25_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h13 : k0_cond13 k0_t1 arg17_r0 = 1#1), ∀ a, (k0_off25 arg14_r0) a + S1.size a ≤ S2.size a := fun k0_t1 arg9_r0 arg10_r0 arg11_r0 arg12_r0 arg13_r0 arg14_r0 arg15_r0 arg16_r0 arg17_r0 k0_hw1 k0_h13 => k0_hw1.2.2.2.2.2.2.2.2.2.2.2.2.2.2.2.2.2.2.1 k0_h13
theorem k0_off26_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h13 : k0_cond13 k0_t1 arg17_r0 = 1#1), ∀ a, (k0_off26 arg17_r0) a + S8000x64.size a ≤ S400000x64.size a := fun k0_t1 arg9_r0 arg10_r0 arg11_r0 arg12_r0 arg13_r0 arg14_r0 arg15_r0 arg16_r0 arg17_r0 k0_hw1 k0_h13 => k0_hw1.2.2.2.2.2.2.2.2.2.2.2.2.2.2.2.2.2.2.2.1 k0_h13
theorem k0_off27_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h13 : k0_cond13 k0_t1 arg17_r0 = 1#1), ∀ a, (k0_off27 arg14_r0) a + S1x8000x64.size a ≤ S2x8000x64.size a := fun k0_t1 arg9_r0 arg10_r0 arg11_r0 arg12_r0 arg13_r0 arg14_r0 arg15_r0 arg16_r0 arg17_r0 k0_hw1 k0_h13 => k0_hw1.2.2.2.2.2.2.2.2.2.2.2.2.2.2.2.2.2.2.2.2.1 k0_h13
theorem k0_off28_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h14 : k0_cond14 k0_t1 arg17_r0 = 1#1), ∀ a, (k0_off28 arg16_r0) a + S1.size a ≤ S2.size a := fun k0_t1 arg9_r0 arg10_r0 arg11_r0 arg12_r0 arg13_r0 arg14_r0 arg15_r0 arg16_r0 arg17_r0 k0_hw1 k0_h14 => k0_hw1.2.2.2.2.2.2.2.2.2.2.2.2.2.2.2.2.2.2.2.2.2.1 k0_h14
theorem k0_off29_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h14 : k0_cond14 k0_t1 arg17_r0 = 1#1), ∀ a, (k0_off29 arg17_r0) a + S8000x64.size a ≤ S400000x64.size a := fun k0_t1 arg9_r0 arg10_r0 arg11_r0 arg12_r0 arg13_r0 arg14_r0 arg15_r0 arg16_r0 arg17_r0 k0_hw1 k0_h14 => k0_hw1.2.2.2.2.2.2.2.2.2.2.2.2.2.2.2.2.2.2.2.2.2.2.1 k0_h14
theorem k0_off30_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 k0_t1 arg9_r0 arg10_r0 arg11_r0 arg12_r0 arg13_r0 arg14_r0 arg15_r0 arg16_r0 arg17_r0), ∀ (k0_h14 : k0_cond14 k0_t1 arg17_r0 = 1#1), ∀ a, (k0_off30 arg16_r0) a + S1x8000x64.size a ≤ S2x8000x64.size a := fun k0_t1 arg9_r0 arg10_r0 arg11_r0 arg12_r0 arg13_r0 arg14_r0 arg15_r0 arg16_r0 arg17_r0 k0_hw1 k0_h14 => k0_hw1.2.2.2.2.2.2.2.2.2.2.2.2.2.2.2.2.2.2.2.2.2.2.2 k0_h14

def k0_off31 (v40_5_r0 : BitVec 32) : Fin 1 → Nat :=
  let c2_i32_67_r0 : BitVec 32 := 2#32
  let v61_r0 : BitVec 32 := Scalar.remui v40_5_r0 c2_i32_67_r0
  ![v61_r0.toNat]

def k0_off32 (v40_8_r0 : BitVec 32) : Fin 2 → Nat :=
  let c8000_i32_r0 : BitVec 32 := 8000#32
  let true_48_r0 : BitVec 1 := 1#1
  let c1_i32_47_r0 : BitVec 32 := 1#32
  let v41_r0 : BitVec 32 := Scalar.subi v40_8_r0 c1_i32_47_r0
  let v42_r0 : BitVec 32 := Scalar.select true_48_r0 v41_r0 v40_8_r0
  let c_m1_i32_49_r0 : BitVec 32 := 4294967295#32
  let v43_r0 : BitVec 1 := Scalar.cmpi .eq v42_r0 c_m1_i32_49_r0
  let c49_i32_50_r0 : BitVec 32 := 49#32
  let v44_r0 : BitVec 32 := Scalar.select v43_r0 c49_i32_50_r0 v42_r0
  let c0_i32_51_r0 : BitVec 32 := 0#32
  let v45_r0 : BitVec 32 := Scalar.addi v44_r0 c0_i32_51_r0
  let v62_r0 : BitVec 32 := Scalar.muli c8000_i32_r0 v45_r0
  let c0_i32_68_r0 : BitVec 32 := 0#32
  ![v62_r0.toNat, 0]

def k0_off33 (v40_5_r0 : BitVec 32) : Fin 3 → Nat :=
  let c2_i32_67_r0 : BitVec 32 := 2#32
  let v61_r0 : BitVec 32 := Scalar.remui v40_5_r0 c2_i32_67_r0
  let c0_i32_69_r0 : BitVec 32 := 0#32
  let c0_i32_70_r0 : BitVec 32 := 0#32
  ![v61_r0.toNat, 0, 0]

def k0_chk6 (v40_5_r0 : BitVec 32) : Prop :=
  (∀ a, (k0_off31 v40_5_r0) a + S1.size a ≤ S2.size a) ∧
  (∀ a, (k0_off33 v40_5_r0) a + S1x8000x64.size a ≤ S2x8000x64.size a)
theorem k0_off31_inb : ∀ (v40_5_r0 : BitVec 32) (k0_hw6 : k0_chk6 v40_5_r0), ∀ a, (k0_off31 v40_5_r0) a + S1.size a ≤ S2.size a := fun v40_5_r0 k0_hw6 => k0_hw6.1
theorem k0_off33_inb : ∀ (v40_5_r0 : BitVec 32) (k0_hw6 : k0_chk6 v40_5_r0), ∀ a, (k0_off33 v40_5_r0) a + S1x8000x64.size a ≤ S2x8000x64.size a := fun v40_5_r0 k0_hw6 => k0_hw6.2

def k0_off34 (v40_7_r0 : BitVec 32) : Fin 1 → Nat :=
  let c2_i32_71_r0 : BitVec 32 := 2#32
  let v69_r0 : BitVec 32 := Scalar.remui v40_7_r0 c2_i32_71_r0
  ![v69_r0.toNat]

def k0_off35 (v40_8_r0 : BitVec 32) : Fin 2 → Nat :=
  let c8000_i32_72_r0 : BitVec 32 := 8000#32
  let true_48_r0 : BitVec 1 := 1#1
  let c1_i32_47_r0 : BitVec 32 := 1#32
  let v41_r0 : BitVec 32 := Scalar.subi v40_8_r0 c1_i32_47_r0
  let v42_r0 : BitVec 32 := Scalar.select true_48_r0 v41_r0 v40_8_r0
  let c_m1_i32_49_r0 : BitVec 32 := 4294967295#32
  let v43_r0 : BitVec 1 := Scalar.cmpi .eq v42_r0 c_m1_i32_49_r0
  let c49_i32_50_r0 : BitVec 32 := 49#32
  let v44_r0 : BitVec 32 := Scalar.select v43_r0 c49_i32_50_r0 v42_r0
  let c0_i32_51_r0 : BitVec 32 := 0#32
  let v45_r0 : BitVec 32 := Scalar.addi v44_r0 c0_i32_51_r0
  let v70_r0 : BitVec 32 := Scalar.muli c8000_i32_72_r0 v45_r0
  let c0_i32_73_r0 : BitVec 32 := 0#32
  ![v70_r0.toNat, 0]

def k0_chk7 (v40_8_r0 : BitVec 32) : Prop :=
  (∀ a, (k0_off32 v40_8_r0) a + S8000x64.size a ≤ S400000x64.size a) ∧
  (∀ a, (k0_off35 v40_8_r0) a + S8000x64.size a ≤ S400000x64.size a)
theorem k0_off32_inb : ∀ (v40_8_r0 : BitVec 32) (k0_hw7 : k0_chk7 v40_8_r0), ∀ a, (k0_off32 v40_8_r0) a + S8000x64.size a ≤ S400000x64.size a := fun v40_8_r0 k0_hw7 => k0_hw7.1
theorem k0_off35_inb : ∀ (v40_8_r0 : BitVec 32) (k0_hw7 : k0_chk7 v40_8_r0), ∀ a, (k0_off35 v40_8_r0) a + S8000x64.size a ≤ S400000x64.size a := fun v40_8_r0 k0_hw7 => k0_hw7.2

def k0_off36 (v40_7_r0 : BitVec 32) : Fin 3 → Nat :=
  let c2_i32_71_r0 : BitVec 32 := 2#32
  let v69_r0 : BitVec 32 := Scalar.remui v40_7_r0 c2_i32_71_r0
  let c0_i32_74_r0 : BitVec 32 := 0#32
  let c0_i32_75_r0 : BitVec 32 := 0#32
  ![v69_r0.toNat, 0, 0]

def k0_chk8 (v40_7_r0 : BitVec 32) : Prop :=
  (∀ a, (k0_off34 v40_7_r0) a + S1.size a ≤ S2.size a) ∧
  (∀ a, (k0_off36 v40_7_r0) a + S1x8000x64.size a ≤ S2x8000x64.size a)
theorem k0_off34_inb : ∀ (v40_7_r0 : BitVec 32) (k0_hw8 : k0_chk8 v40_7_r0), ∀ a, (k0_off34 v40_7_r0) a + S1.size a ≤ S2.size a := fun v40_7_r0 k0_hw8 => k0_hw8.1
theorem k0_off36_inb : ∀ (v40_7_r0 : BitVec 32) (k0_hw8 : k0_chk8 v40_7_r0), ∀ a, (k0_off36 v40_7_r0) a + S1x8000x64.size a ≤ S2x8000x64.size a := fun v40_7_r0 k0_hw8 => k0_hw8.2

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x100000x64 : Shape := ⟨3, ![4, 100000, 64]⟩
abbrev S128x64 : Shape := ⟨2, ![128, 64]⟩
abbrev S64 : Shape := ⟨1, ![64]⟩
abbrev S64x64 : Shape := ⟨2, ![64, 64]⟩
abbrev S4x100000x128 : Shape := ⟨3, ![4, 100000, 128]⟩
abbrev S1x1x64 : Shape := ⟨3, ![1, 1, 64]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x100000x64, .f32⟩
  | .hbm, ⟨1, _⟩ => ⟨S4x100000x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S4x100000x128, .f32⟩
  | .hbm, ⟨7, _⟩ => ⟨S4x100000x64, .f32⟩
  | .hbm, ⟨8, _⟩ => ⟨S1x1x64, .f32⟩
  | .hbm, ⟨9, _⟩ => ⟨S4x100000x64, .f32⟩
  | .hbm, ⟨10, _⟩ => ⟨S4x100000x64, .f32⟩
  | .hbm, ⟨11, _⟩ => ⟨S_, .f32⟩
  | .hbm, ⟨12, _⟩ => ⟨S4x100000x64, .f32⟩
  | .hbm, ⟨13, _⟩ => ⟨S4x100000x64, .i1⟩
  | .hbm, ⟨14, _⟩ => ⟨S_, .f32⟩
  | .hbm, ⟨15, _⟩ => ⟨S4x100000x64, .f32⟩
  | .hbm, ⟨16, _⟩ => ⟨S4x100000x64, .i1⟩
  | .hbm, ⟨17, _⟩ => ⟨S_, .f32⟩
  | .hbm, ⟨18, _⟩ => ⟨S_, .f32⟩
  | .hbm, ⟨19, _⟩ => ⟨S4x100000x64, .f32⟩
  | .hbm, ⟨20, _⟩ => ⟨S4x100000x64, .f32⟩
  | .hbm, ⟨21, _⟩ => ⟨S4x100000x64, .f32⟩
  | .hbm, ⟨22, _⟩ => ⟨S_, .f32⟩
  | .hbm, ⟨23, _⟩ => ⟨S4x100000x64, .f32⟩
  | .hbm, ⟨24, _⟩ => ⟨S4x100000x64, .f32⟩
  | .hbm, ⟨25, _⟩ => ⟨S4x100000x64, .f32⟩
  | .hbm, ⟨26, _⟩ => ⟨S4x100000x64, .f32⟩
  | .hbm, ⟨27, _⟩ => ⟨S1x1x64, .f32⟩
  | .hbm, ⟨28, _⟩ => ⟨S4x100000x64, .f32⟩
  | .hbm, ⟨29, _⟩ => ⟨S4x100000x64, .f32⟩
  | .hbm, ⟨30, _⟩ => ⟨S4x100000x64, .f32⟩
  | .hbm, ⟨31, _⟩ => ⟨S4x100000x64, .f32⟩
  | .hbm, ⟨32, _⟩ => ⟨S_, .f32⟩
  | .hbm, ⟨33, _⟩ => ⟨S4x100000x64, .f32⟩
  | .hbm, ⟨34, _⟩ => ⟨S4x100000x64, .f32⟩
  | .hbm, ⟨35, _⟩ => ⟨S_, .f32⟩
  | .hbm, ⟨36, _⟩ => ⟨S4x100000x64, .f32⟩
  | .hbm, ⟨37, _⟩ => ⟨S4x100000x64, .f32⟩
  | .hbm, ⟨38, _⟩ => ⟨S4x100000x64, .f32⟩
  | .hbm, ⟨39, _⟩ => ⟨S_, .f32⟩
  | .hbm, ⟨40, _⟩ => ⟨S4x100000x64, .f32⟩
  | .hbm, ⟨41, _⟩ => ⟨S4x100000x64, .f32⟩
  | .hbm, ⟨42, _⟩ => ⟨S4x100000x64, .f32⟩
  | .hbm, ⟨43, _⟩ => ⟨S4x100000x64, .f32⟩
  | _, _ => ⟨S4x100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩

abbrev nD : Nat := 1
abbrev τ : Topo := Topo.v7x

variable {F : FTy → Type} [FloatOps F]
-- ==== Proof.Names.lean ====
/-
  Names for what the gate kernel's pipeline moves: block `b` of an array (8000 of its 400000 rows), slot `s` of a
  two-slot buffer, slot `s`'s semaphore; the nine words the loop carries before trip `k`; and every offset, condition
  and check of a trip at those words, in closed form.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring.Trips
public import Idealize.ShloMosaic.Lib.Tactic

@[expose] public section

noncomputable section

namespace Cert.Proof.Gate

open Cert.KernelIdeal Cert.KernelIdeal.Gen
open Idealize.ShloMosaic
open Idealize.ShloMosaic.TcCoe Idealize.ShloMosaic.Tactic

/-! ## Blocks, slots, semaphores -/

abbrev blkOff (b : Fin 50) : Fin 2 → Nat := ![8000 * b.val, 0]
theorem blkOff_inb (b : Fin 50) : ∀ a, blkOff b a + S8000x64.size a ≤ S400000x64.size a := by
  have := b.isLt; intro a; fin_cases a
  · show 8000 * b.val + 8000 ≤ 400000; omega
  · show 0 + 64 ≤ 64; omega
abbrev slotOff (s : Fin 2) : Fin 3 → Nat := ![s.val, 0, 0]
theorem slotOff_inb (s : Fin 2) : ∀ a, slotOff s a + S1x8000x64.size a ≤ S2x8000x64.size a := by
  have := s.isLt; intro a; fin_cases a
  · show s.val + 1 ≤ 2; omega
  · show 0 + 8000 ≤ 8000; omega
  · show 0 + 64 ≤ 64; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- The four arrays the kernel streams, as the body is handed them: `c`, `t`, the mixed result and the gate. -/
abbrev cM : Memref sig .tc .hbm S4x100000x64 .f32 := Memref.whole main_arg0
abbrev tM : Memref sig .tc .hbm S4x100000x64 .f32 := Memref.whole main_arg1
abbrev mM : Memref sig .tc .hbm S4x100000x64 .f32 := Memref.whole main_v2_0
abbrev wM : Memref sig .tc .hbm S4x100000x64 .f32 := Memref.whole main_v2_1
/-- The four two-slot buffers. -/
abbrev cB : Memref sig .tc .vmem S2x8000x64 .f32 := Memref.whole cc0_scoped0
abbrev tB : Memref sig .tc .vmem S2x8000x64 .f32 := Memref.whole cc0_scoped2
abbrev mB : Memref sig .tc .vmem S2x8000x64 .f32 := Memref.whole cc0_scoped4
abbrev wB : Memref sig .tc .vmem S2x8000x64 .f32 := Memref.whole cc0_scoped6

/-- An array of 4 × 100000 rows read as 400000 rows. -/
abbrev rows (M : Memref sig .tc .hbm S4x100000x64 .f32) (hM : M.IsWhole) : Memref sig .tc .hbm S400000x64 .f32 :=
  M.reshape S400000x64 reshapes_S4x100000x64_S400000x64.1 reshapes_S4x100000x64_S400000x64.2 hM.contiguous
/-- Block `b` of such an array. -/
abbrev blk (M : Memref sig .tc .hbm S4x100000x64 .f32) (hM : M.IsWhole) (b : Fin 50) : Memref sig .tc .hbm S8000x64 .f32 :=
  (rows M hM).slice (Rect.unit (s := S400000x64) (blkOff b) S8000x64.size (blkOff_inb b)) (fun _ => rfl)
/-- Slot `s` of a two-slot buffer. -/
abbrev slot (B : Memref sig .tc .vmem S2x8000x64 .f32) (s : Fin 2) : Memref sig .tc .vmem S8000x64 .f32 :=
  (B.slice (Rect.unit (s := S2x8000x64) (slotOff s) S1x8000x64.size (slotOff_inb s)) (fun _ => rfl)).squeeze S8000x64 squeezes_S1x8000x64_S8000x64
/-- Element `s` of a pair of semaphores. -/
abbrev semAt (A : DmaSems sig S2) (s : Fin 2) : DmaSems sig S_ :=
  (A.slice (Rect.unit (s := S2) (semOff s) S1.size (semOff_inb s))).squeeze S_ squeezes_S1_S_

def cblk (b : Fin 50) : Memref sig .tc .hbm S8000x64 .f32 := blk cM (Memref.isWhole_whole _) b
def tblk (b : Fin 50) : Memref sig .tc .hbm S8000x64 .f32 := blk tM (Memref.isWhole_whole _) b
def mblk (b : Fin 50) : Memref sig .tc .hbm S8000x64 .f32 := blk mM (Memref.isWhole_whole _) b
def wblk (b : Fin 50) : Memref sig .tc .hbm S8000x64 .f32 := blk wM (Memref.isWhole_whole _) b
def cslot (s : Fin 2) : Memref sig .tc .vmem S8000x64 .f32 := slot cB s
def tslot (s : Fin 2) : Memref sig .tc .vmem S8000x64 .f32 := slot tB s
def mslot (s : Fin 2) : Memref sig .tc .vmem S8000x64 .f32 := slot mB s
def wslot (s : Fin 2) : Memref sig .tc .vmem S8000x64 .f32 := slot wB s
def csem (s : Fin 2) : DmaSems sig S_ := semAt cc0_scoped1 s
def tsem (s : Fin 2) : DmaSems sig S_ := semAt cc0_scoped3 s
def msem (s : Fin 2) : DmaSems sig S_ := semAt cc0_scoped5 s
def wsem (s : Fin 2) : DmaSems sig S_ := semAt cc0_scoped7 s

instance (s : Fin 2) : ClosedOff (slotOff s) := ⟨slotOff s, rfl⟩
instance (b : Fin 50) : ClosedOff (blkOff b) := ⟨blkOff b, rfl⟩

/-! ## The carried words before trip `k` -/

/-- The next block to fetch; -/
def wN (k : ℕ) : BitVec 32 := BitVec.ofNat 32 (min (k + 1) 50)
/-- the block computed; -/
def wC (k : ℕ) : BitVec 32 := BitVec.ofNat 32 k
/-- the block whose copy back is waited; -/
def wP (k : ℕ) : BitVec 32 := BitVec.ofNat 32 (k - 1)
/-- and the step, wrapped to zero after the last. -/
def wG (k : ℕ) : BitVec 32 := BitVec.ofNat 32 (k % 50)
abbrev Words : Type := BitVec 32 × BitVec 32 × BitVec 32 × BitVec 32 × BitVec 32 × BitVec 32 × BitVec 32 × BitVec 32 × BitVec 32
/-- The nine together. -/
abbrev accW (k : ℕ) : Words := (wN k, wC k, wN k, wC k, wC k, wP k, wC k, wP k, wG k)

abbrev Trip : Type := Fin k0_t1_loop.trips
theorem trips_eq : k0_t1_loop.trips = 50 := by decide +kernel
theorem Trip.lt (k : Trip) : k.val < 50 := Nat.lt_of_lt_of_eq k.isLt trips_eq

/-! ## Offsets -/

theorem off1_eq : k0_off1 = semOff 0 := by decide +kernel
theorem off2_eq : k0_off2 = slotOff 0 := by decide +kernel
theorem off3_at : ∀ k : Trip, k.val + 1 < 50 → k0_off3 (wN k.val) = semOff (Ring.sl 2 (k.val + 1)) := by decide +kernel
theorem off4_at : ∀ k : Trip, k.val + 1 < 50 → k0_off4 (wN k.val) = slotOff (Ring.sl 2 (k.val + 1)) := by decide +kernel
theorem off5_at : ∀ k : Trip, k.val + 1 < 50 → k0_off5 (wG k.val) = blkOff (Ring.bk 50 (k.val + 1)) := by decide +kernel
theorem off6_at : ∀ k : Trip, k.val + 1 < 50 → k0_off6 (wN k.val) = semOff (Ring.sl 2 (k.val + 1)) := by decide +kernel
theorem off7_at : ∀ k : Trip, k.val + 1 < 50 → k0_off7 (wN k.val) = slotOff (Ring.sl 2 (k.val + 1)) := by decide +kernel
theorem off8_at : ∀ k : Trip, k.val + 1 < 50 → k0_off8 (wG k.val) = blkOff (Ring.bk 50 (k.val + 1)) := by decide +kernel
theorem off9_at : ∀ k : Trip, k0_off9 (wC k.val) = semOff (Ring.sl 2 k.val) := by decide +kernel
theorem off10_at : ∀ k : Trip, k0_off10 (wC k.val) = slotOff (Ring.sl 2 k.val) := by decide +kernel
theorem off11_at : ∀ k : Trip, k0_off11 (wG k.val) = blkOff (Ring.bk 50 k.val) := by decide +kernel
theorem off12_at : ∀ k : Trip, k0_off12 (wC k.val) = semOff (Ring.sl 2 k.val) := by decide +kernel
theorem off13_at : ∀ k : Trip, k0_off13 (wC k.val) = slotOff (Ring.sl 2 k.val) := by decide +kernel
theorem off14_at : ∀ k : Trip, k0_off14 (wG k.val) = blkOff (Ring.bk 50 k.val) := by decide +kernel
theorem off15_at : ∀ k : Trip, k0_off15 (wC k.val) = slotOff (Ring.sl 2 k.val) := by decide +kernel
theorem off16_at : ∀ k : Trip, k0_off16 (wC k.val) = slotOff (Ring.sl 2 k.val) := by decide +kernel
theorem off17_at : ∀ k : Trip, k0_off17 (wC k.val) = slotOff (Ring.sl 2 k.val) := by decide +kernel
theorem off18_at : ∀ k : Trip, k0_off18 (wC k.val) = slotOff (Ring.sl 2 k.val) := by decide +kernel
theorem off19_at : ∀ k : Trip, k0_off19 (wC k.val) = semOff (Ring.sl 2 k.val) := by decide +kernel
theorem off20_at : ∀ k : Trip, k0_off20 (wG k.val) = blkOff (Ring.bk 50 k.val) := by decide +kernel
theorem off21_at : ∀ k : Trip, k0_off21 (wC k.val) = slotOff (Ring.sl 2 k.val) := by decide +kernel
theorem off22_at : ∀ k : Trip, k0_off22 (wC k.val) = semOff (Ring.sl 2 k.val) := by decide +kernel
theorem off23_at : ∀ k : Trip, k0_off23 (wG k.val) = blkOff (Ring.bk 50 k.val) := by decide +kernel
theorem off24_at : ∀ k : Trip, k0_off24 (wC k.val) = slotOff (Ring.sl 2 k.val) := by decide +kernel
theorem off25_at : ∀ k : Trip, 1 ≤ k.val → k0_off25 (wP k.val) = semOff (Ring.sl 2 (k.val + 1)) := by decide +kernel
theorem off26_at : ∀ k : Trip, 1 ≤ k.val → k0_off26 (wG k.val) = blkOff (Ring.bk 50 (k.val - 1)) := by decide +kernel
theorem off27_at : ∀ k : Trip, 1 ≤ k.val → k0_off27 (wP k.val) = slotOff (Ring.sl 2 (k.val + 1)) := by decide +kernel
theorem off28_at : ∀ k : Trip, 1 ≤ k.val → k0_off28 (wP k.val) = semOff (Ring.sl 2 (k.val + 1)) := by decide +kernel
theorem off29_at : ∀ k : Trip, 1 ≤ k.val → k0_off29 (wG k.val) = blkOff (Ring.bk 50 (k.val - 1)) := by decide +kernel
theorem off30_at : ∀ k : Trip, 1 ≤ k.val → k0_off30 (wP k.val) = slotOff (Ring.sl 2 (k.val + 1)) := by decide +kernel
theorem off31_end : k0_off31 (wP 50) = semOff 1 := by decide +kernel
theorem off32_end : k0_off32 (wG 50) = blkOff 49 := by decide +kernel
theorem off33_end : k0_off33 (wP 50) = slotOff 1 := by decide +kernel
theorem off34_end : k0_off34 (wP 50) = semOff 1 := by decide +kernel
theorem off35_end : k0_off35 (wG 50) = blkOff 49 := by decide +kernel
theorem off36_end : k0_off36 (wP 50) = slotOff 1 := by decide +kernel

instance (k : Trip) : ClosedOff (k0_off15 (wC k.val)) := ⟨slotOff (Ring.sl 2 k.val), off15_at k⟩
instance (k : Trip) : ClosedOff (k0_off16 (wC k.val)) := ⟨slotOff (Ring.sl 2 k.val), off16_at k⟩
instance (k : Trip) : ClosedOff (k0_off17 (wC k.val)) := ⟨slotOff (Ring.sl 2 k.val), off17_at k⟩
instance (k : Trip) : ClosedOff (k0_off18 (wC k.val)) := ⟨slotOff (Ring.sl 2 k.val), off18_at k⟩

/-! ## Conditions and checks -/

/-- A trip fetches the next block exactly when there is one; -/
theorem cond1_at : ∀ k : Trip, k0_cond1 k (wG k.val) = 1#1 ↔ k.val + 1 < 50 := by decide +kernel
theorem cond2_at : ∀ k : Trip, k0_cond2 k (wG k.val) = 1#1 ↔ k.val + 1 < 50 := by decide +kernel
/-- it always waits its own block, -/
theorem cond3_at : ∀ k : Trip, k0_cond3 k (wG k.val) = 1#1 := by decide +kernel
theorem cond4_at : ∀ k : Trip, k0_cond4 k (wG k.val) = 1#1 := by decide +kernel
/-- always copies its results back, -/
theorem cond9_at : ∀ k : Trip, k0_cond9 k (wG k.val) = 1#1 := by decide +kernel
theorem cond10_at : ∀ k : Trip, k0_cond10 k (wG k.val) = 1#1 := by decide +kernel
/-- and waits the previous trip's copies when there was one. -/
theorem cond13_at : ∀ k : Trip, k0_cond13 k (wG k.val) = 1#1 ↔ 1 ≤ k.val := by decide +kernel
theorem cond14_at : ∀ k : Trip, k0_cond14 k (wG k.val) = 1#1 ↔ 1 ≤ k.val := by decide +kernel

theorem chk1_at : ∀ k : Trip, k0_chk1 k (wN k.val) (wC k.val) (wN k.val) (wC k.val) (wC k.val) (wP k.val) (wC k.val) (wP k.val) (wG k.val) := by decide +kernel
theorem chk2_at : ∀ k : Trip, k0_chk2 (wC k.val) := by decide +kernel
theorem chk3_at : ∀ k : Trip, k0_chk3 (wC k.val) := by decide +kernel
theorem chk4_at : ∀ k : Trip, k0_chk4 (wC k.val) := by decide +kernel
theorem chk5_at : ∀ k : Trip, k0_chk5 (wC k.val) := by decide +kernel
theorem chk6_end : k0_chk6 (wP 50) := by decide +kernel
theorem chk7_end : k0_chk7 (wG 50) := by decide +kernel
theorem chk8_end : k0_chk8 (wP 50) := by decide +kernel

/-! ## The program's memrefs under these names -/

section Canon

private theorem semAt_congr (A : DmaSems sig S2) {off : Fin 1 → Nat} {s : Fin 2} (e : off = semOff s) (hh) :
    (A.slice (Rect.unit (s := S2) off S1.size hh)).squeeze S_ squeezes_S1_S_ = semAt A s :=
  congrArg (fun A : DmaSems sig S1 => A.squeeze S_ squeezes_S1_S_) (SemArray.slice_unit_congr _ e _ _)
private theorem slot_congr (B : Memref sig .tc .vmem S2x8000x64 .f32) {off : Fin 3 → Nat} {s : Fin 2} (e : off = slotOff s) (hh hs) :
    (B.slice (Rect.unit (s := S2x8000x64) off S1x8000x64.size hh) hs).squeeze S8000x64 squeezes_S1x8000x64_S8000x64 = slot B s :=
  congrArg (fun M : Memref sig .tc .vmem S1x8000x64 .f32 => M.squeeze S8000x64 squeezes_S1x8000x64_S8000x64) (Memref.slice_unit_congr _ e _ _ _ _)
private theorem blk_congr (M : Memref sig .tc .hbm S4x100000x64 .f32) (hM : M.IsWhole) {off : Fin 2 → Nat} {b : Fin 50} (e : off = blkOff b) (h1 h2 h3) (hh hs) :
    (M.reshape S400000x64 h1 h2 h3).slice (Rect.unit (s := S400000x64) off S8000x64.size hh) hs = blk M hM b :=
  Memref.slice_unit_congr _ e _ _ _ _

/-- Before the loop: block 0, slot 0. -/
@[sl_canon] theorem csem_0 (hh) : (cc0_scoped1.slice (Rect.unit (s := S2) k0_off1 S1.size hh)).squeeze S_ squeezes_S1_S_ = csem 0 := semAt_congr _ off1_eq _
@[sl_canon] theorem tsem_0 (hh) : (cc0_scoped3.slice (Rect.unit (s := S2) k0_off1 S1.size hh)).squeeze S_ squeezes_S1_S_ = tsem 0 := semAt_congr _ off1_eq _
@[sl_canon] theorem cslot_0 (hh hs) : (cB.slice (Rect.unit (s := S2x8000x64) k0_off2 S1x8000x64.size hh) hs).squeeze S8000x64 squeezes_S1x8000x64_S8000x64 = cslot 0 := slot_congr _ off2_eq _ _
@[sl_canon] theorem tslot_0 (hh hs) : (tB.slice (Rect.unit (s := S2x8000x64) k0_off2 S1x8000x64.size hh) hs).squeeze S8000x64 squeezes_S1x8000x64_S8000x64 = tslot 0 := slot_congr _ off2_eq _ _
@[sl_canon] theorem cblk_0 (h1 h2 h3 hh hs) : (cM.reshape S400000x64 h1 h2 h3).slice (Rect.unit (s := S400000x64) ![0, 0] S8000x64.size hh) hs = cblk 0 := blk_congr _ _ (by decide) _ _ _ _ _
@[sl_canon] theorem tblk_0 (h1 h2 h3 hh hs) : (tM.reshape S400000x64 h1 h2 h3).slice (Rect.unit (s := S400000x64) ![0, 0] S8000x64.size hh) hs = tblk 0 := blk_congr _ _ (by decide) _ _ _ _ _

section
variable (k : Trip)

/-- Trip `k` fetches block `k + 1` into slot `(k + 1) % 2`. -/
@[sl_canon] theorem csem_n (hk : k.val + 1 < 50) (hh) : (cc0_scoped1.slice (Rect.unit (s := S2) (k0_off3 (wN k.val)) S1.size hh)).squeeze S_ squeezes_S1_S_ = csem (Ring.sl 2 (k.val + 1)) := semAt_congr _ (off3_at k hk) _
@[sl_canon] theorem tsem_n (hk : k.val + 1 < 50) (hh) : (cc0_scoped3.slice (Rect.unit (s := S2) (k0_off6 (wN k.val)) S1.size hh)).squeeze S_ squeezes_S1_S_ = tsem (Ring.sl 2 (k.val + 1)) := semAt_congr _ (off6_at k hk) _
@[sl_canon] theorem cslot_n (hk : k.val + 1 < 50) (hh hs) : (cB.slice (Rect.unit (s := S2x8000x64) (k0_off4 (wN k.val)) S1x8000x64.size hh) hs).squeeze S8000x64 squeezes_S1x8000x64_S8000x64 = cslot (Ring.sl 2 (k.val + 1)) := slot_congr _ (off4_at k hk) _ _
@[sl_canon] theorem tslot_n (hk : k.val + 1 < 50) (hh hs) : (tB.slice (Rect.unit (s := S2x8000x64) (k0_off7 (wN k.val)) S1x8000x64.size hh) hs).squeeze S8000x64 squeezes_S1x8000x64_S8000x64 = tslot (Ring.sl 2 (k.val + 1)) := slot_congr _ (off7_at k hk) _ _
@[sl_canon] theorem cblk_n (hk : k.val + 1 < 50) (h1 h2 h3 hh hs) : (cM.reshape S400000x64 h1 h2 h3).slice (Rect.unit (s := S400000x64) (k0_off5 (wG k.val)) S8000x64.size hh) hs = cblk (Ring.bk 50 (k.val + 1)) := blk_congr _ _ (off5_at k hk) _ _ _ _ _
@[sl_canon] theorem tblk_n (hk : k.val + 1 < 50) (h1 h2 h3 hh hs) : (tM.reshape S400000x64 h1 h2 h3).slice (Rect.unit (s := S400000x64) (k0_off8 (wG k.val)) S8000x64.size hh) hs = tblk (Ring.bk 50 (k.val + 1)) := blk_congr _ _ (off8_at k hk) _ _ _ _ _

/-- It waits block `k` in slot `k % 2`; -/
@[sl_canon] theorem csem_c (hh) : (cc0_scoped1.slice (Rect.unit (s := S2) (k0_off9 (wC k.val)) S1.size hh)).squeeze S_ squeezes_S1_S_ = csem (Ring.sl 2 k.val) := semAt_congr _ (off9_at k) _
@[sl_canon] theorem tsem_c (hh) : (cc0_scoped3.slice (Rect.unit (s := S2) (k0_off12 (wC k.val)) S1.size hh)).squeeze S_ squeezes_S1_S_ = tsem (Ring.sl 2 k.val) := semAt_congr _ (off12_at k) _
@[sl_canon] theorem cslot_c (hh hs) : (cB.slice (Rect.unit (s := S2x8000x64) (k0_off10 (wC k.val)) S1x8000x64.size hh) hs).squeeze S8000x64 squeezes_S1x8000x64_S8000x64 = cslot (Ring.sl 2 k.val) := slot_congr _ (off10_at k) _ _
@[sl_canon] theorem tslot_c (hh hs) : (tB.slice (Rect.unit (s := S2x8000x64) (k0_off13 (wC k.val)) S1x8000x64.size hh) hs).squeeze S8000x64 squeezes_S1x8000x64_S8000x64 = tslot (Ring.sl 2 k.val) := slot_congr _ (off13_at k) _ _
@[sl_canon] theorem cblk_c (h1 h2 h3 hh hs) : (cM.reshape S400000x64 h1 h2 h3).slice (Rect.unit (s := S400000x64) (k0_off11 (wG k.val)) S8000x64.size hh) hs = cblk (Ring.bk 50 k.val) := blk_congr _ _ (off11_at k) _ _ _ _ _
@[sl_canon] theorem tblk_c (h1 h2 h3 hh hs) : (tM.reshape S400000x64 h1 h2 h3).slice (Rect.unit (s := S400000x64) (k0_off14 (wG k.val)) S8000x64.size hh) hs = tblk (Ring.bk 50 k.val) := blk_congr _ _ (off14_at k) _ _ _ _ _

/-- copies slot `k % 2` of each result back to block `k`; -/
@[sl_canon] theorem msem_c (hh) : (cc0_scoped5.slice (Rect.unit (s := S2) (k0_off19 (wC k.val)) S1.size hh)).squeeze S_ squeezes_S1_S_ = msem (Ring.sl 2 k.val) := semAt_congr _ (off19_at k) _
@[sl_canon] theorem wsem_c (hh) : (cc0_scoped7.slice (Rect.unit (s := S2) (k0_off22 (wC k.val)) S1.size hh)).squeeze S_ squeezes_S1_S_ = wsem (Ring.sl 2 k.val) := semAt_congr _ (off22_at k) _
@[sl_canon] theorem mslot_c (hh hs) : (mB.slice (Rect.unit (s := S2x8000x64) (k0_off21 (wC k.val)) S1x8000x64.size hh) hs).squeeze S8000x64 squeezes_S1x8000x64_S8000x64 = mslot (Ring.sl 2 k.val) := slot_congr _ (off21_at k) _ _
@[sl_canon] theorem wslot_c (hh hs) : (wB.slice (Rect.unit (s := S2x8000x64) (k0_off24 (wC k.val)) S1x8000x64.size hh) hs).squeeze S8000x64 squeezes_S1x8000x64_S8000x64 = wslot (Ring.sl 2 k.val) := slot_congr _ (off24_at k) _ _
@[sl_canon] theorem mblk_c (h1 h2 h3 hh hs) : (mM.reshape S400000x64 h1 h2 h3).slice (Rect.unit (s := S400000x64) (k0_off20 (wG k.val)) S8000x64.size hh) hs = mblk (Ring.bk 50 k.val) := blk_congr _ _ (off20_at k) _ _ _ _ _
@[sl_canon] theorem wblk_c (h1 h2 h3 hh hs) : (wM.reshape S400000x64 h1 h2 h3).slice (Rect.unit (s := S400000x64) (k0_off23 (wG k.val)) S8000x64.size hh) hs = wblk (Ring.bk 50 k.val) := blk_congr _ _ (off23_at k) _ _ _ _ _

/-- and waits the copies of block `k - 1`, in the other slot. -/
@[sl_canon] theorem msem_p (hk : 1 ≤ k.val) (hh) : (cc0_scoped5.slice (Rect.unit (s := S2) (k0_off25 (wP k.val)) S1.size hh)).squeeze S_ squeezes_S1_S_ = msem (Ring.sl 2 (k.val + 1)) := semAt_congr _ (off25_at k hk) _
@[sl_canon] theorem wsem_p (hk : 1 ≤ k.val) (hh) : (cc0_scoped7.slice (Rect.unit (s := S2) (k0_off28 (wP k.val)) S1.size hh)).squeeze S_ squeezes_S1_S_ = wsem (Ring.sl 2 (k.val + 1)) := semAt_congr _ (off28_at k hk) _
@[sl_canon] theorem mslot_p (hk : 1 ≤ k.val) (hh hs) : (mB.slice (Rect.unit (s := S2x8000x64) (k0_off27 (wP k.val)) S1x8000x64.size hh) hs).squeeze S8000x64 squeezes_S1x8000x64_S8000x64 = mslot (Ring.sl 2 (k.val + 1)) := slot_congr _ (off27_at k hk) _ _
@[sl_canon] theorem wslot_p (hk : 1 ≤ k.val) (hh hs) : (wB.slice (Rect.unit (s := S2x8000x64) (k0_off30 (wP k.val)) S1x8000x64.size hh) hs).squeeze S8000x64 squeezes_S1x8000x64_S8000x64 = wslot (Ring.sl 2 (k.val + 1)) := slot_congr _ (off30_at k hk) _ _
@[sl_canon] theorem mblk_p (hk : 1 ≤ k.val) (h1 h2 h3 hh hs) : (mM.reshape S400000x64 h1 h2 h3).slice (Rect.unit (s := S400000x64) (k0_off26 (wG k.val)) S8000x64.size hh) hs = mblk (Ring.bk 50 (k.val - 1)) := blk_congr _ _ (off26_at k hk) _ _ _ _ _
@[sl_canon] theorem wblk_p (hk : 1 ≤ k.val) (h1 h2 h3 hh hs) : (wM.reshape S400000x64 h1 h2 h3).slice (Rect.unit (s := S400000x64) (k0_off29 (wG k.val)) S8000x64.size hh) hs = wblk (Ring.bk 50 (k.val - 1)) := blk_congr _ _ (off29_at k hk) _ _ _ _ _
end

/-- After the loop: the copies of block 49, in slot 1. -/
@[sl_canon] theorem msem_e (hh) : (cc0_scoped5.slice (Rect.unit (s := S2) (k0_off31 (wP 50)) S1.size hh)).squeeze S_ squeezes_S1_S_ = msem 1 := semAt_congr _ off31_end _
@[sl_canon] theorem wsem_e (hh) : (cc0_scoped7.slice (Rect.unit (s := S2) (k0_off34 (wP 50)) S1.size hh)).squeeze S_ squeezes_S1_S_ = wsem 1 := semAt_congr _ off34_end _
@[sl_canon] theorem mslot_e (hh hs) : (mB.slice (Rect.unit (s := S2x8000x64) (k0_off33 (wP 50)) S1x8000x64.size hh) hs).squeeze S8000x64 squeezes_S1x8000x64_S8000x64 = mslot 1 := slot_congr _ off33_end _ _
@[sl_canon] theorem wslot_e (hh hs) : (wB.slice (Rect.unit (s := S2x8000x64) (k0_off36 (wP 50)) S1x8000x64.size hh) hs).squeeze S8000x64 squeezes_S1x8000x64_S8000x64 = wslot 1 := slot_congr _ off36_end _ _
@[sl_canon] theorem mblk_e (h1 h2 h3 hh hs) : (mM.reshape S400000x64 h1 h2 h3).slice (Rect.unit (s := S400000x64) (k0_off32 (wG 50)) S8000x64.size hh) hs = mblk 49 := blk_congr _ _ off32_end _ _ _ _ _
@[sl_canon] theorem wblk_e (h1 h2 h3 hh hs) : (wM.reshape S400000x64 h1 h2 h3).slice (Rect.unit (s := S400000x64) (k0_off35 (wG 50)) S8000x64.size hh) hs = wblk 49 := blk_congr _ _ off35_end _ _ _ _ _

end Canon

end Cert.Proof.Gate

end
-- ==== Proof.Blocks.lean ====
/-
  One block's values: what a slot holds after a block lands in it, what the body loads of it, what the two results'
  blocks are, and what a copy back carries.
-/
module

public import proofs.«01_k».proof.Proof.Names
public import Idealize.ShloMosaic.Lib.ViewIndex
public import Idealize.ShloMosaic.Lib.Pipeline.Value

@[expose] public section

noncomputable section

namespace Cert.Proof.Gate

open Cert.KernelIdeal Cert.KernelIdeal.Gen
open Idealize.ShloMosaic
open Idealize.ShloMosaic.TcCoe Idealize.ShloMosaic.Tactic

variable {F : FTy → Type} [FloatOps F]

/-- A block as the body loads it: under a leading axis of one. -/
abbrev slab {α : Type} (x : S8000x64.Idx → α) : S1x8000x64.Idx → α := shapeCast S1x8000x64 x shapeCasts_S8000x64_S1x8000x64

section Views
variable {sig' : RefSig} {κ : Kind} {sp : Space} {s s' : Shape} {e : EltTy} {Val : EltTy → Type} (v : View sig' κ sp s e)

/-- A re-indexed view reads the view at the matched index. -/
theorem read_reshape (h : s'.numel = s.numel) (f : v.ty.Contents Val) (x : s'.Idx) :
    (v.reshape s' h).read Val f x = v.read Val f (Shape.reshapeEquiv h x) := rfl
/-- A view reads what was written whole through a re-indexing of it, re-indexed back; -/
theorem read_of_writes_reshape (h : s'.numel = s.numel) (h' : s'.ShapeCasts s) (f : v.ty.Contents Val) (x : s'.Idx → Val e) :
    v.read Val ((v.reshape s' h).writes Val f [⟨Rect.whole s', x⟩]) = shapeCast s x h' := by
  funext j
  have key := congrFun (View.read_writes_whole (Val := Val) (v.reshape s' h) f x) (Shape.reshapeEquiv h' j)
  rw [read_reshape, Shape.reshapeEquiv_reshapeEquiv, Shape.reshapeEquiv_self] at key
  exact key
/-- and a re-indexing reads what was written through the view, re-indexed. -/
theorem read_reshape_of_write (h : s'.numel = s.numel) (f : v.ty.Contents Val) (w : s.Idx → Val e) :
    (v.reshape s' h).read Val (v.write Val f w Finset.univ) = shapeCast s' w h := by
  funext x
  rw [read_reshape, View.read_write_univ]; rfl
end Views

omit [FloatOps F] in
/-- The body's load of a slot a block was written to is that block. -/
theorem load_slot (B : Memref sig .tc .vmem S2x8000x64 .f32) (s : Fin 2) {off : Fin 3 → Nat} (e : off = slotOff s) (hh)
    (f : B.view.ty.Contents (Elt F)) (x : S8000x64.Idx → Elt F .f32) :
    B.view.readAt (Elt F) (Rect.unit (s := S2x8000x64) off S1x8000x64.size hh).toLoadRect ((slot B s).view.writes (Elt F) f [⟨Rect.whole S8000x64, x⟩]) = slab x := by
  subst e
  rw [View.readAt_rect]
  exact read_of_writes_reshape (s := S1x8000x64) (s' := S8000x64) (B.view.slice (Rect.unit (s := S2x8000x64) (slotOff s) S1x8000x64.size hh)) squeezes_S1x8000x64_S8000x64.numel_eq shapeCasts_S8000x64_S1x8000x64 f x

omit [FloatOps F] in
/-- After the body's store to a slot, the slot reads the stored vector without its leading axis. -/
theorem read_stored (B : Memref sig .tc .vmem S2x8000x64 .f32) (s : Fin 2) {off : Fin 3 → Nat} (e : off = slotOff s) (hh)
    (f : B.view.ty.Contents (Elt F)) (w : S1x8000x64.Idx → Elt F .f32) :
    (slot B s).view.read (Elt F) (View.write (Elt F) (B.access (Rect.unit (s := S2x8000x64) off S1x8000x64.size hh)) f w Finset.univ)
      = shapeCast S8000x64 w squeezes_S1x8000x64_S8000x64.numel_eq := by
  subst e
  exact read_reshape_of_write (s := S1x8000x64) (s' := S8000x64) (B.view.slice (Rect.unit (s := S2x8000x64) (slotOff s) S1x8000x64.size hh)) squeezes_S1x8000x64_S8000x64.numel_eq f w

section Values
variable (x t : S8000x64.Idx → Elt F .f32)
  (v0 : Vec F S128x64 .f32) (v2 : FVec F S1x64 .f32) (v3 : Vec F S64x64 .f32) (v5 : FVec F S1x64 .f32)

/-- The gate's block, of blocks `x` of `c` and `t` of `t`; -/
def gateOf : S8000x64.Idx → Elt F .f32 := k0_pay3 v0 v2 v3 v5 (slab x) (slab t)
/-- the mixed result's. -/
def mixOf : S8000x64.Idx → Elt F .f32 := k0_pay5 v0 v2 v3 v5 (slab x) (slab t)

/-- Stored and read back, the gate's block is itself; -/
theorem gate_back (h) : shapeCast S8000x64 (k0_pay4 v0 v2 v3 v5 (slab x) (slab t)) h = gateOf x t v0 v2 v3 v5 :=
  shapeCast_shapeCast _ _ _
/-- so is the mixed result's. -/
theorem mix_back (h) : shapeCast S8000x64 (k0_pay6 (k0_pay5 v0 v2 v3 v5 (slab x) (slab t))) h = mixOf x t v0 v2 v3 v5 :=
  shapeCast_shapeCast _ _ _
end Values

end Cert.Proof.Gate

end
-- ==== Proof.Rings.lean ====
/-
  What the pipeline holds between trips. An input ring before trip `k`: block `k` on its way into slot `k % 2`, the
  other slot idle, every other block at home. An output ring: the blocks before `k - 1` written, block `k - 1` on its
  way out of slot `(k + 1) % 2`, slot `k % 2` idle, the rest untouched.
-/
module

public import proofs.«01_k».proof.Proof.Blocks
public import Idealize.ShloMosaic.Lib.Pipeline.KitQuiescent
public import Idealize.ShloMosaic.Lib.Ring

@[expose] public section

noncomputable section

namespace Cert.Proof.Gate

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the pipeline's own, beside the counters the kernel's transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

omit [FloatOps F] in
/-- A product over one more index is that index's factor beside the rest. -/
theorem sep_insert {i : Fin 50} {s : Finset (Fin 50)} (h : i ∉ s) {Φ : Fin 50 → sProp 𝕄} : bigSep (insert i s) Φ = iprop(Φ i ∗ bigSep s Φ) :=
  bigSep_insert h

section
variable (c : Dev nD)

/-- A memref's elements, held at contents `f`. -/
abbrev own {sp : Space} {s : Shape} (M : Memref sig .tc sp s .f32) (f : Buf (Elt F) (M.view.loc (c : Thread nD τ))) : sProp 𝕄 :=
  M.view.loc (c : Thread nD τ) ↦[M.view.set]{fullShare} f
/-- A semaphore at zero. -/
abbrev cell (A : DmaSems sig S_) : sProp 𝕄 := semVal ((c : Thread nD τ), SemLoc.dma A.sem) 0
/-- A block on its way into a slot, -/
abbrev inFlight (A : DmaSems sig S_) (B : Memref sig .tc .hbm S8000x64 .f32) (S : Memref sig .tc .vmem S8000x64 .f32)
    (X : Buf (Elt F) (B.view.loc (c : Thread nD τ))) (f : Buf (Elt F) (S.view.loc (c : Thread nD τ))) : sProp 𝕄 :=
  Transfers.Flight countersEmb (c : Thread nD τ) (SemLoc.dma A.sem) () 128000
    iprop(own c S (S.view.writes (Elt F) f [⟨Rect.whole S8000x64, ReadAs.same.apply (B.view.read (Elt F) X)⟩]) ∗ own c B X)
/-- and a slot on its way out to a block. -/
abbrev outFlight (A : DmaSems sig S_) (B : Memref sig .tc .hbm S8000x64 .f32) (S : Memref sig .tc .vmem S8000x64 .f32)
    (g : Buf (Elt F) (S.view.loc (c : Thread nD τ))) (f : Buf (Elt F) (B.view.loc (c : Thread nD τ))) : sProp 𝕄 :=
  Transfers.Flight countersEmb (c : Thread nD τ) (SemLoc.dma A.sem) () 128000
    iprop(own c B (B.view.writes (Elt F) f [⟨Rect.whole S8000x64, ReadAs.same.apply (S.view.read (Elt F) g)⟩]) ∗ own c S g)

/-- A ring at rest: every block at `H`, both slots at anything, both semaphores at zero. -/
def Idle (A : Fin 2 → DmaSems sig S_) (S : Fin 2 → Memref sig .tc .vmem S8000x64 .f32) (H : Fin 50 → sProp 𝕄) : sProp 𝕄 :=
  iprop(bigSep Finset.univ H ∗ (∃ f, own c (S 0) f) ∗ (∃ f, own c (S 1) f) ∗ cell c (A 0) ∗ cell c (A 1))

theorem sl2_add2 (k : ℕ) : Ring.sl 2 (k + 1 + 1) = Ring.sl 2 k := by rw [show k + 1 + 1 = k + 2 from rfl, Ring.sl_add]
theorem sl2_0 : Ring.sl 2 0 = 0 := Fin.ext (by rfl)
theorem sl2_1 : Ring.sl 2 (0 + 1) = 1 := Fin.ext (by rfl)
theorem sl2_50 : Ring.sl 2 50 = 0 := Fin.ext (by rfl)
theorem sl2_51 : Ring.sl 2 (50 + 1) = 1 := Fin.ext (by rfl)
theorem bk_0 : Ring.bk 50 0 = 0 := Fin.ext (by rfl)
theorem bk_49 : Ring.bk 50 (50 - 1) = 49 := Fin.ext (by rfl)

/-! ## An input ring -/

section In
variable (A : Fin 2 → DmaSems sig S_) (B : Fin 50 → Memref sig .tc .hbm S8000x64 .f32) (S : Fin 2 → Memref sig .tc .vmem S8000x64 .f32)
  (X : ∀ b, Buf (Elt F) ((B b).view.loc (c : Thread nD τ)))

abbrev home (b : Fin 50) : sProp 𝕄 := own c (B b) (X b)

/-- Before trip `k` of the fifty. -/
def InRing (k : ℕ) : sProp 𝕄 :=
  iprop(bigSep (Ring.homeSet 1 k) (home c B X)
    ∗ (∃ f, inFlight c (A (Ring.sl 2 k)) (B (Ring.bk 50 k)) (S (Ring.sl 2 k)) (X (Ring.bk 50 k)) f)
    ∗ (∃ f, own c (S (Ring.sl 2 (k + 1))) f) ∗ cell c (A (Ring.sl 2 (k + 1))))

/-- What trip `k` uses of it, beside the blocks it leaves alone: -/
theorem in_open (k : ℕ) (hk : k + 1 < 50) :
    InRing c A B S X k ⊢ iprop(bigSep ((Ring.homeSet 1 k).erase (Ring.bk 50 (k + 1))) (home c B X) ∗ own c (B (Ring.bk 50 (k + 1))) (X (Ring.bk 50 (k + 1)))
      ∗ (∃ f, inFlight c (A (Ring.sl 2 k)) (B (Ring.bk 50 k)) (S (Ring.sl 2 k)) (X (Ring.bk 50 k)) f)
      ∗ (∃ f, own c (S (Ring.sl 2 (k + 1))) f) ∗ cell c (A (Ring.sl 2 (k + 1)))) := by
  unfold InRing
  conv_lhs => rw [Ring.homeSet_out 1 k hk, sep_insert (Ring.bkL_not_mem_erase 1 k)]
  iintro ⟨⟨Hb, Hr⟩, HF, HS, HC⟩
  isplitl [Hr]; · iexact Hr
  isplitl [Hb]; · iexact Hb
  isplitl [HF]; · iexact HF
  isplitl [HS]; · iexact HS
  iexact HC

/-- the next block issued and block `k` back, the ring is the next trip's. -/
theorem in_close (k : ℕ) (hk : k + 1 < 50) :
    iprop(bigSep ((Ring.homeSet 1 k).erase (Ring.bk 50 (k + 1))) (home c B X) ∗ own c (B (Ring.bk 50 k)) (X (Ring.bk 50 k))
      ∗ (∃ f, inFlight c (A (Ring.sl 2 (k + 1))) (B (Ring.bk 50 (k + 1))) (S (Ring.sl 2 (k + 1))) (X (Ring.bk 50 (k + 1))) f)
      ∗ (∃ f, own c (S (Ring.sl 2 k)) f) ∗ cell c (A (Ring.sl 2 k))) ⊢ InRing c A B S X (k + 1) := by
  unfold InRing
  rw [sl2_add2]
  conv_rhs => rw [Ring.homeSet_succ 1 k hk, sep_insert (Ring.bk_not_mem_erase 1 k (by omega) (by decide))]
  iintro ⟨Hr, Hb, HF, HS, HC⟩
  isplitl [Hb Hr]
  · isplitl [Hb]; · iexact Hb
    iexact Hr
  isplitl [HF]; · iexact HF
  isplitl [HS]; · iexact HS
  iexact HC

theorem univ_zero : (Finset.univ : Finset (Fin 50)) = insert (0 : Fin 50) (Ring.homeSet 1 0) := by
  ext b; simp only [Finset.mem_univ, Finset.mem_insert, Ring.mem_homeSet, true_iff, Fin.ext_iff]; have := b.isLt; show b.val = 0 ∨ _; omega
theorem univ_last : (Finset.univ : Finset (Fin 50)) = insert (Ring.bk 50 49) (Ring.homeSet 1 49) := by
  ext b; simp only [Finset.mem_univ, Finset.mem_insert, Ring.mem_homeSet, true_iff, Fin.ext_iff, Ring.bk_val (show 49 < 50 by omega)]; have := b.isLt; omega

/-- The ring at rest with block 0 apart (the first issue takes it); -/
theorem in_start :
    Idle c A S (home c B X) ⊢ iprop(bigSep (Ring.homeSet 1 0) (home c B X) ∗ own c (B 0) (X 0)
      ∗ (∃ f, own c (S 0) f) ∗ (∃ f, own c (S 1) f) ∗ cell c (A 0) ∗ cell c (A 1)) := by
  unfold Idle
  conv_lhs => rw [univ_zero, sep_insert (by simp [Ring.mem_homeSet])]
  iintro ⟨⟨Hb, Hr⟩, H⟩
  isplitl [Hr]; · iexact Hr
  isplitl [Hb]; · iexact Hb
  iexact H
/-- block 0 on its way, the ring is trip 0's. -/
theorem in_begun :
    iprop(bigSep (Ring.homeSet 1 0) (home c B X) ∗ (∃ f, inFlight c (A 0) (B 0) (S 0) (X 0) f) ∗ (∃ f, own c (S 1) f) ∗ cell c (A 1)) ⊢ InRing c A B S X 0 := by
  unfold InRing; rw [sl2_0, sl2_1, bk_0]
/-- What the last trip uses of it, -/
theorem in_last (k : ℕ) : InRing c A B S X k ⊢ iprop(bigSep (Ring.homeSet 1 k) (home c B X)
    ∗ (∃ f, inFlight c (A (Ring.sl 2 k)) (B (Ring.bk 50 k)) (S (Ring.sl 2 k)) (X (Ring.bk 50 k)) f)
    ∗ (∃ f, own c (S (Ring.sl 2 (k + 1))) f) ∗ cell c (A (Ring.sl 2 (k + 1)))) := .rfl
/-- and after it the ring is at rest. -/
theorem in_end (k : ℕ) (hk : k = 49) :
    iprop(bigSep (Ring.homeSet 1 k) (home c B X) ∗ own c (B (Ring.bk 50 k)) (X (Ring.bk 50 k))
      ∗ (∃ f, own c (S (Ring.sl 2 k)) f) ∗ cell c (A (Ring.sl 2 k)) ∗ (∃ f, own c (S (Ring.sl 2 (k + 1))) f) ∗ cell c (A (Ring.sl 2 (k + 1))))
      ⊢ Idle c A S (home c B X) := by
  subst hk
  unfold Idle
  rw [show Ring.sl 2 49 = 1 from Fin.ext (by rfl), show Ring.sl 2 (49 + 1) = 0 from Fin.ext (by rfl)]
  conv_rhs => rw [univ_last, sep_insert (by simp [Ring.mem_homeSet, Ring.bk_val (show 49 < 50 by omega)])]
  iintro ⟨Hr, Hb, H1, C1, H0, C0⟩
  isplitl [Hb Hr]
  · isplitl [Hb]; · iexact Hb
    iexact Hr
  isplitl [H0]; · iexact H0
  isplitl [H1]; · iexact H1
  isplitl [C0]; · iexact C0
  iexact C1
end In

/-! ## An output ring -/

section Out
variable (A : Fin 2 → DmaSems sig S_) (B : Fin 50 → Memref sig .tc .hbm S8000x64 .f32) (S : Fin 2 → Memref sig .tc .vmem S8000x64 .f32)
  (Z : Fin 50 → S8000x64.Idx → Elt F .f32)

/-- A block not yet written, -/
abbrev todo (b : Fin 50) : sProp 𝕄 := iprop(∃ f, own c (B b) f)
/-- and one that reads its value `Z b`. -/
abbrev done (b : Fin 50) : sProp 𝕄 := iprop(∃ f, ⌜(B b).view.read (Elt F) f = Z b⌝ ∗ own c (B b) f)

def doneSet (k : ℕ) : Finset (Fin 50) := Finset.univ.filter fun b => b.val + 1 < k
def todoSet (k : ℕ) : Finset (Fin 50) := Finset.univ.filter fun b => k ≤ b.val

theorem todoSet_eq {k : ℕ} (hk : k < 50) : todoSet k = insert (Ring.bk 50 k) (todoSet (k + 1)) := by
  ext b; simp only [todoSet, Finset.mem_filter, Finset.mem_univ, true_and, Finset.mem_insert, Fin.ext_iff, Ring.bk_val hk]; omega
theorem not_mem_todoSet {k : ℕ} (hk : k < 50) : Ring.bk 50 k ∉ todoSet (k + 1) := by
  simp only [todoSet, Finset.mem_filter, Finset.mem_univ, true_and, Ring.bk_val hk]; omega
theorem doneSet_eq {k : ℕ} (hk : 1 ≤ k) (hk' : k ≤ 50) : doneSet (k + 1) = insert (Ring.bk 50 (k - 1)) (doneSet k) := by
  ext b; simp only [doneSet, Finset.mem_filter, Finset.mem_univ, true_and, Finset.mem_insert, Fin.ext_iff, Ring.bk_val (show k - 1 < 50 by omega)]; omega
theorem not_mem_doneSet {k : ℕ} (hk : 1 ≤ k) (hk' : k ≤ 50) : Ring.bk 50 (k - 1) ∉ doneSet k := by
  simp only [doneSet, Finset.mem_filter, Finset.mem_univ, true_and, Ring.bk_val (show k - 1 < 50 by omega)]; omega
theorem todoSet_zero : todoSet 0 = Finset.univ := by ext b; simp [todoSet]
theorem todoSet_end : todoSet 50 = ∅ := by ext b; have := b.isLt; simp [todoSet]
theorem doneSet_one : doneSet 1 = ∅ := by ext b; simp [doneSet]
theorem doneSet_end : doneSet (50 + 1) = Finset.univ := by ext b; have := b.isLt; simp only [doneSet, Finset.mem_filter, Finset.mem_univ, true_and, iff_true]; omega

/-- Before trip `k`, `1 ≤ k ≤ 50`. -/
def OutRing (k : ℕ) : sProp 𝕄 :=
  iprop(bigSep (doneSet k) (done c B Z) ∗ bigSep (todoSet k) (todo c B)
    ∗ (∃ g f, ⌜(S (Ring.sl 2 (k + 1))).view.read (Elt F) g = Z (Ring.bk 50 (k - 1))⌝
        ∗ outFlight c (A (Ring.sl 2 (k + 1))) (B (Ring.bk 50 (k - 1))) (S (Ring.sl 2 (k + 1))) g f)
    ∗ (∃ f, own c (S (Ring.sl 2 k)) f) ∗ cell c (A (Ring.sl 2 k)))

/-- What trip `k ≥ 1` uses of it: -/
theorem out_open (k : ℕ) (hk : k < 50) :
    OutRing c A B S Z k ⊢ iprop(bigSep (doneSet k) (done c B Z) ∗ bigSep (todoSet (k + 1)) (todo c B) ∗ (∃ f, own c (B (Ring.bk 50 k)) f)
      ∗ (∃ g f, ⌜(S (Ring.sl 2 (k + 1))).view.read (Elt F) g = Z (Ring.bk 50 (k - 1))⌝
        ∗ outFlight c (A (Ring.sl 2 (k + 1))) (B (Ring.bk 50 (k - 1))) (S (Ring.sl 2 (k + 1))) g f)
      ∗ (∃ f, own c (S (Ring.sl 2 k)) f) ∗ cell c (A (Ring.sl 2 k))) := by
  unfold OutRing
  rw [todoSet_eq hk, sep_insert (not_mem_todoSet hk)]
  iintro ⟨Hd, ⟨Hb, Ht⟩, H⟩
  isplitl [Hd]; · iexact Hd
  isplitl [Ht]; · iexact Ht
  isplitl [Hb]; · iexact Hb
  iexact H

/-- A block the copy of `g` landed in reads `Z`'s, if the slot did. -/
theorem landed (b : Fin 50) (s : Fin 2) (g f) (h : (S s).view.read (Elt F) g = Z b) :
    own c (B b) ((B b).view.writes (Elt F) f [⟨Rect.whole S8000x64, ReadAs.same.apply ((S s).view.read (Elt F) g)⟩]) ⊢ done c B Z b := by
  iintro H
  iexists _
  isplitr
  · ipureintro; exact (View.read_writes_whole (Val := Elt F) (B b).view f _).trans h
  · iexact H

/-- block `k - 1` landed and block `k` issued, the ring is the next trip's. -/
theorem out_close (k : ℕ) (h1 : 1 ≤ k) (hk : k < 50) (g f) (hg : (S (Ring.sl 2 (k + 1))).view.read (Elt F) g = Z (Ring.bk 50 (k - 1)))
    (g' f') (hg' : (S (Ring.sl 2 k)).view.read (Elt F) g' = Z (Ring.bk 50 k)) :
    iprop(bigSep (doneSet k) (done c B Z) ∗ bigSep (todoSet (k + 1)) (todo c B)
      ∗ own c (B (Ring.bk 50 (k - 1))) ((B (Ring.bk 50 (k - 1))).view.writes (Elt F) f [⟨Rect.whole S8000x64, ReadAs.same.apply ((S (Ring.sl 2 (k + 1))).view.read (Elt F) g)⟩])
      ∗ outFlight c (A (Ring.sl 2 k)) (B (Ring.bk 50 k)) (S (Ring.sl 2 k)) g' f'
      ∗ own c (S (Ring.sl 2 (k + 1))) g ∗ cell c (A (Ring.sl 2 (k + 1)))) ⊢ OutRing c A B S Z (k + 1) := by
  unfold OutRing
  rw [sl2_add2, Nat.add_sub_cancel, doneSet_eq h1 (by omega), sep_insert (not_mem_doneSet h1 (by omega))]
  iintro ⟨Hd, Ht, Hb, HF, HS, HC⟩
  isplitl [Hd Hb]
  · isplitl [Hb]; · iapply (landed c B S Z _ _ g f hg); iexact Hb
    iexact Hd
  isplitl [Ht]; · iexact Ht
  isplitl [HF]
  · iexists g'; iexists f'; isplitr; · ipureintro; exact hg'
    iexact HF
  isplitl [HS]; · iexists g; iexact HS
  iexact HC

/-- The first trip: from the ring at rest, -/
theorem out_start (k : ℕ) (hk : k = 0) :
    Idle c A S (todo (F := F) c B) ⊢ iprop(bigSep (todoSet (k + 1)) (todo (F := F) c B) ∗ (∃ f, own c (B (Ring.bk 50 k)) f)
      ∗ (∃ f, own c (S (Ring.sl 2 k)) f) ∗ (∃ f, own c (S (Ring.sl 2 (k + 1))) f) ∗ cell c (A (Ring.sl 2 k)) ∗ cell c (A (Ring.sl 2 (k + 1)))) := by
  subst hk
  unfold Idle
  rw [← todoSet_zero, todoSet_eq (show 0 < 50 by omega), sep_insert (not_mem_todoSet (by omega)), sl2_0, sl2_1]
  iintro ⟨⟨Hb, Ht⟩, H⟩
  isplitl [Ht]; · iexact Ht
  isplitl [Hb]; · iexact Hb
  iexact H
/-- to trip 1's. -/
theorem out_begun (k : ℕ) (hk : k = 0) (g' f') (hg' : (S (Ring.sl 2 k)).view.read (Elt F) g' = Z (Ring.bk 50 k)) :
    iprop(bigSep (todoSet (k + 1)) (todo c B) ∗ outFlight c (A (Ring.sl 2 k)) (B (Ring.bk 50 k)) (S (Ring.sl 2 k)) g' f'
      ∗ (∃ f, own c (S (Ring.sl 2 (k + 1))) f) ∗ cell c (A (Ring.sl 2 (k + 1)))) ⊢ OutRing c A B S Z (k + 1) := by
  subst hk
  unfold OutRing
  rw [sl2_add2, doneSet_one, bigSep_empty]
  iintro ⟨Ht, HF, HS, HC⟩
  isplitr; · iempintro
  isplitl [Ht]; · iexact Ht
  isplitl [HF]
  · iexists g'; iexists f'; isplitr; · ipureintro; exact hg'
    iexact HF
  isplitl [HS]; · iexact HS
  iexact HC

/-- After the loop: block 49 on its way out of slot 1, -/
theorem out_last :
    OutRing c A B S Z 50 ⊢ iprop(bigSep (doneSet 50) (done c B Z)
      ∗ (∃ g f, ⌜(S 1).view.read (Elt F) g = Z 49⌝ ∗ outFlight c (A 1) (B 49) (S 1) g f)
      ∗ (∃ f, own c (S 0) f) ∗ cell c (A 0)) := by
  unfold OutRing
  rw [sl2_50, sl2_51, bk_49, todoSet_end, bigSep_empty]
  iintro ⟨Hd, -, H⟩
  isplitl [Hd]; · iexact Hd
  iexact H
/-- and once it landed the ring is at rest, every block written. -/
theorem out_end (g f) (hg : (S 1).view.read (Elt F) g = Z 49) :
    iprop(bigSep (doneSet 50) (done c B Z)
      ∗ own c (B 49) ((B 49).view.writes (Elt F) f [⟨Rect.whole S8000x64, ReadAs.same.apply ((S 1).view.read (Elt F) g)⟩])
      ∗ own c (S 1) g ∗ cell c (A 1) ∗ (∃ f, own c (S 0) f) ∗ cell c (A 0)) ⊢ Idle c A S (done c B Z) := by
  unfold Idle
  rw [← doneSet_end, doneSet_eq (show 1 ≤ 50 by omega) (by omega), sep_insert (not_mem_doneSet (by omega) (by omega)), bk_49]
  iintro ⟨Hd, Hb, H1, C1, H0, C0⟩
  isplitl [Hd Hb]
  · isplitl [Hb]; · iapply (landed c B S Z _ _ g f hg); iexact Hb
    iexact Hd
  isplitl [H0]; · iexact H0
  isplitl [H1]; · iexists g; iexact H1
  isplitl [C0]; · iexact C0
  iexact C1
end Out
end

end Cert.Proof.Gate

end
-- ==== Proof.Trip.lean ====
/-
  One trip of the pipeline at a symbolic step, in its three kinds: the first (no copy back to wait for), a middle one,
  and the last (no block left to fetch).
-/
module

public import proofs.«01_k».proof.Proof.Rings

@[expose] public section

noncomputable section

namespace Cert.Proof.Gate

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (XC : Buf (Elt F) (cM.view.loc (c : Thread nD τ))) (XT : Buf (Elt F) (tM.view.loc (c : Thread nD τ)))
  (arg0 : Memref sig .tc .vmem S128x64 .f32) (harg0 : arg0.IsWhole) (arg1 : Memref sig .tc .vmem S1x64 .f32) (harg1 : arg1.IsWhole)
  (arg2 : Memref sig .tc .vmem S64x64 .f32) (harg2 : arg2.IsWhole) (arg3 : Memref sig .tc .vmem S1x64 .f32) (harg3 : arg3.IsWhole)
  (v0 : Vec F S128x64 .f32) (v2 : FVec F S1x64 .f32) (v3 : Vec F S64x64 .f32) (v5 : FVec F S1x64 .f32) (i0 i1 : BitVec 32)

/-- Block `b` of the mixed result, -/
def ZM (b : Fin 50) : S8000x64.Idx → Elt F .f32 := mixOf ((cblk b).view.read (Elt F) XC) ((tblk b).view.read (Elt F) XT) v0 v2 v3 v5
/-- and of the gate. -/
def ZW (b : Fin 50) : S8000x64.Idx → Elt F .f32 := gateOf ((cblk b).view.read (Elt F) XC) ((tblk b).view.read (Elt F) XT) v0 v2 v3 v5

abbrev CRing (k : ℕ) : sProp 𝕄 := InRing c csem cblk cslot (fun _ => XC) k
abbrev TRing (k : ℕ) : sProp 𝕄 := InRing c tsem tblk tslot (fun _ => XT) k
abbrev MRing (k : ℕ) : sProp 𝕄 := OutRing c msem mblk mslot (ZM c XC XT v0 v2 v3 v5) k
abbrev WRing (k : ℕ) : sProp 𝕄 := OutRing c wsem wblk wslot (ZW c XC XT v0 v2 v3 v5) k
abbrev CIdle : sProp 𝕄 := Idle c csem cslot (home c cblk (fun _ => XC))
abbrev TIdle : sProp 𝕄 := Idle c tsem tslot (home c tblk (fun _ => XT))
abbrev MIdle : sProp 𝕄 := Idle c msem mslot (todo c mblk)
abbrev WIdle : sProp 𝕄 := Idle c wsem wslot (todo c wblk)
abbrev MDone : sProp 𝕄 := Idle c msem mslot (done c mblk (ZM c XC XT v0 v2 v3 v5))
abbrev WDone : sProp 𝕄 := Idle c wsem wslot (done c wblk (ZW c XC XT v0 v2 v3 v5))

/-- The loop's region at the four arrays and the four buffers. -/
abbrev tripG (k : Trip) : Words → Prog (TpuEff nD τ sig (Elt F) Λ₀ .tc) Words :=
  k0_t1_body (F := F) arg0 harg0 arg1 harg1 arg2 harg2 arg3 harg3 cM (Memref.isWhole_whole _) tM (Memref.isWhole_whole _) mM (Memref.isWhole_whole _) wM (Memref.isWhole_whole _)
    cB (Memref.isWhole_whole _) cc0_scoped1 tB (Memref.isWhole_whole _) cc0_scoped3 mB (Memref.isWhole_whole _) cc0_scoped5 wB (Memref.isWhole_whole _) cc0_scoped7 v0 v2 v3 v5 i0 i1 k

/-- The mixed result's slot after the trip's store reads its block; -/
theorem mix_stored (k : Trip) (s : Fin 2) {o1 o2 o3 : Fin 3 → Nat} (e1 : o1 = slotOff s) (e2 : o2 = slotOff s) (e3 : o3 = slotOff s) (h1 h2 h3)
    (b : Fin 50) (fc ft fm) :
    (mslot s).view.read (Elt F) (View.write (Elt F) (mB.access (Rect.unit (s := S2x8000x64) o3 S1x8000x64.size h3)) fm
      (k0_pay6 (k0_pay5 v0 v2 v3 v5
        (cB.view.readAt (Elt F) (Rect.unit (s := S2x8000x64) o1 S1x8000x64.size h1).toLoadRect ((cslot s).view.writes (Elt F) fc [⟨Rect.whole S8000x64, ReadAs.same.apply ((cblk b).view.read (Elt F) XC)⟩]))
        (tB.view.readAt (Elt F) (Rect.unit (s := S2x8000x64) o2 S1x8000x64.size h2).toLoadRect ((tslot s).view.writes (Elt F) ft [⟨Rect.whole S8000x64, ReadAs.same.apply ((tblk b).view.read (Elt F) XT)⟩]))))
      Finset.univ) = ZM c XC XT v0 v2 v3 v5 b := by
  refine (read_stored mB s e3 h3 fm _).trans ?_
  have a := load_slot cB s e1 h1 fc ((cblk b).view.read (Elt F) XC)
  have a' := load_slot tB s e2 h2 ft ((tblk b).view.read (Elt F) XT)
  refine Eq.trans ?_ (mix_back _ _ v0 v2 v3 v5 squeezes_S1x8000x64_S8000x64.numel_eq)
  exact congrArg₂ (fun x y => shapeCast S8000x64 (k0_pay6 (k0_pay5 v0 v2 v3 v5 x y)) squeezes_S1x8000x64_S8000x64.numel_eq) a a'
/-- the gate's likewise. -/
theorem gate_stored (k : Trip) (s : Fin 2) {o1 o2 o3 : Fin 3 → Nat} (e1 : o1 = slotOff s) (e2 : o2 = slotOff s) (e3 : o3 = slotOff s) (h1 h2 h3)
    (b : Fin 50) (fc ft fw) :
    (wslot s).view.read (Elt F) (View.write (Elt F) (wB.access (Rect.unit (s := S2x8000x64) o3 S1x8000x64.size h3)) fw
      (k0_pay4 v0 v2 v3 v5
        (cB.view.readAt (Elt F) (Rect.unit (s := S2x8000x64) o1 S1x8000x64.size h1).toLoadRect ((cslot s).view.writes (Elt F) fc [⟨Rect.whole S8000x64, ReadAs.same.apply ((cblk b).view.read (Elt F) XC)⟩]))
        (tB.view.readAt (Elt F) (Rect.unit (s := S2x8000x64) o2 S1x8000x64.size h2).toLoadRect ((tslot s).view.writes (Elt F) ft [⟨Rect.whole S8000x64, ReadAs.same.apply ((tblk b).view.read (Elt F) XT)⟩])))
      Finset.univ) = ZW c XC XT v0 v2 v3 v5 b := by
  refine (read_stored wB s e3 h3 fw _).trans ?_
  have a := load_slot cB s e1 h1 fc ((cblk b).view.read (Elt F) XC)
  have a' := load_slot tB s e2 h2 ft ((tblk b).view.read (Elt F) XT)
  refine Eq.trans ?_ (gate_back _ _ v0 v2 v3 v5 squeezes_S1x8000x64_S8000x64.numel_eq)
  exact congrArg₂ (fun x y => shapeCast S8000x64 (k0_pay4 v0 v2 v3 v5 x y) squeezes_S1x8000x64_S8000x64.numel_eq) a a'

set_option maxHeartbeats 1600000 in  -- the region is 287 statements, run in one go
set_option backward.proofsInPublic true in
/-- The first trip: block 1 fetched, block 0 computed, nothing waited on the way out. -/
theorem trip_first (k : Trip) (hk : k.val = 0) :
    iprop((∃ W, owes (c : Thread nD τ) 0 W) ∗ CRing c XC k.val ∗ TRing c XT k.val ∗ MIdle c ∗ WIdle c)
    ⊢ wp frame (wpE (defs₀ (F := F)) 𝒱₀ (c : Thread nD τ) none) Set.univ
        (tripG arg0 harg0 arg1 harg1 arg2 harg2 arg3 harg3 v0 v2 v3 v5 i0 i1 k (accW k.val))
        (fun r => iprop(⌜r = accW (k.val + 1)⌝ ∗ (∃ W, owes (c : Thread nD τ) 0 W) ∗ CRing c XC (k.val + 1) ∗ TRing c XT (k.val + 1) ∗ MRing c XC XT v0 v2 v3 v5 (k.val + 1) ∗ WRing c XC XT v0 v2 v3 v5 (k.val + 1))) := by
  have hk2 : k.val + 1 < 50 := by omega
  have hk1 : ¬ 1 ≤ k.val := by omega
  have hk50 := k.lt
  have C1 := (cond1_at k).2 hk2
  have C2 := (cond2_at k).2 hk2
  have C3 := cond3_at k
  have C4 := cond4_at k
  have C9 := cond9_at k
  have C10 := cond10_at k
  have C13 : ¬ k0_cond13 k (wG k.val) = 1#1 := fun h => hk1 ((cond13_at k).1 h)
  have C14 : ¬ k0_cond14 k (wG k.val) = 1#1 := fun h => hk1 ((cond14_at k).1 h)
  have K1 := chk1_at k
  have K2 := chk2_at k
  have K3 := chk3_at k
  have K4 := chk4_at k
  have K5 := chk5_at k
  iintro ⟨⟨%W, HW⟩, HCR, HTR, HMR, HWR⟩
  ihave HCO := (in_open c csem cblk cslot (fun _ => XC) k.val hk2) $$ HCR
  ihave HTO := (in_open c tsem tblk tslot (fun _ => XT) k.val hk2) $$ HTR
  icases HCO with ⟨HcR, HcB, ⟨%fc', HcF⟩, ⟨%fc, HcS⟩, HcL⟩
  icases HTO with ⟨HtR, HtB, ⟨%ft', HtF⟩, ⟨%ft, HtS⟩, HtL⟩
  ihave HMO := (out_start c msem mblk mslot k.val hk) $$ HMR
  ihave HWO := (out_start c wsem wblk wslot k.val hk) $$ HWR
  icases HMO with ⟨HmT, ⟨%hm, HmB⟩, ⟨%fm, HmS⟩, ⟨%fm', HmS'⟩, HmL, HmL'⟩
  icases HWO with ⟨HwT, ⟨%hw, HwB⟩, ⟨%fw, HwS⟩, ⟨%fw', HwS'⟩, HwL, HwL'⟩
  dsimp only [tripG]
  sl_unfold [k0_t1_body]
  sl_exec
  sl_step
  isplitr
  · ipureintro
    obtain ⟨e1, e2, e3, e4⟩ := (by decide +kernel : ∀ k : Trip, trip_first.sl.v104_r0 k = wN (k.val + 1) ∧ trip_first.sl.v203_r0 k = wC (k.val + 1)
      ∧ trip_first.sl.v230_r0 k = wP (k.val + 1) ∧ trip_first.sl.v88_r0 k = wG (k.val + 1)) k
    rw [e1, e2, e3, e4]
  isplitl [HW]; · iexists _; iexact HW
  isplitl [HcR HcF_src HcF_dst HcF HcL]
  · iapply (in_close c csem cblk cslot (fun _ => XC) k.val hk2)
    isplitl [HcR]; · iexact HcR
    isplitl [HcF_src]; · iexact HcF_src
    isplitl [HcL]; · iexists _; iexact HcL
    isplitl [HcF_dst]; · iexists _; iexact HcF_dst
    iexact HcF
  isplitl [HtR HtF_src HtF_dst HtF HtL]
  · iapply (in_close c tsem tblk tslot (fun _ => XT) k.val hk2)
    isplitl [HtR]; · iexact HtR
    isplitl [HtF_src]; · iexact HtF_src
    isplitl [HtL]; · iexists _; iexact HtL
    isplitl [HtF_dst]; · iexists _; iexact HtF_dst
    iexact HtF
  have hgm' : (mslot (Ring.sl 2 k.val)).view.read (Elt F) (trip_first.sl.HmS_w2 c XC XT v0 v2 v3 v5 k K2 K3 K5 fm) = ZM c XC XT v0 v2 v3 v5 (Ring.bk 50 k.val) := by
    unfold trip_first.sl.HmS_w2 trip_first.sl.v186_r0 trip_first.sl.r trip_first.sl.v152_r0 trip_first.sl.v155_r0
    exact mix_stored c XC XT v0 v2 v3 v5 k (Ring.sl 2 k.val) (off15_at k) (off16_at k) (off18_at k) _ _ _ (Ring.bk 50 k.val) _ _ _
  isplitl [HmT HmL HmS' HmL']
  · iapply (out_begun c msem mblk mslot (ZM c XC XT v0 v2 v3 v5) k.val hk _ hm hgm')
    isplitl [HmT]; · iexact HmT
    isplitl [HmL]; · iexact HmL
    isplitl [HmS']; · iexists _; iexact HmS'
    iexact HmL'
  have hgw' : (wslot (Ring.sl 2 k.val)).view.read (Elt F) (trip_first.sl.HwS_w1 c XC XT v0 v2 v3 v5 k K2 K3 K4 fw) = ZW c XC XT v0 v2 v3 v5 (Ring.bk 50 k.val) := by
    unfold trip_first.sl.HwS_w1 trip_first.sl.v152_r0 trip_first.sl.v155_r0
    exact gate_stored c XC XT v0 v2 v3 v5 k (Ring.sl 2 k.val) (off15_at k) (off16_at k) (off17_at k) _ _ _ (Ring.bk 50 k.val) _ _ _
  iapply (out_begun c wsem wblk wslot (ZW c XC XT v0 v2 v3 v5) k.val hk _ hw hgw')
  isplitl [HwT]; · iexact HwT
  isplitl [HwL]; · iexact HwL
  isplitl [HwS']; · iexists _; iexact HwS'
  iexact HwL'

set_option maxHeartbeats 1600000 in  -- the region is 287 statements, run in one go
set_option backward.proofsInPublic true in
/-- A middle trip: block `k + 1` fetched, block `k` computed and sent, block `k - 1` landed. -/
theorem trip_mid (k : Trip) (hk1 : 1 ≤ k.val) (hk2 : k.val + 1 < 50) :
    iprop((∃ W, owes (c : Thread nD τ) 0 W) ∗ CRing c XC k.val ∗ TRing c XT k.val ∗ MRing c XC XT v0 v2 v3 v5 k.val ∗ WRing c XC XT v0 v2 v3 v5 k.val)
    ⊢ wp frame (wpE (defs₀ (F := F)) 𝒱₀ (c : Thread nD τ) none) Set.univ
        (tripG arg0 harg0 arg1 harg1 arg2 harg2 arg3 harg3 v0 v2 v3 v5 i0 i1 k (accW k.val))
        (fun r => iprop(⌜r = accW (k.val + 1)⌝ ∗ (∃ W, owes (c : Thread nD τ) 0 W) ∗ CRing c XC (k.val + 1) ∗ TRing c XT (k.val + 1) ∗ MRing c XC XT v0 v2 v3 v5 (k.val + 1) ∗ WRing c XC XT v0 v2 v3 v5 (k.val + 1))) := by
  have hk50 := k.lt
  have C1 := (cond1_at k).2 hk2
  have C2 := (cond2_at k).2 hk2
  have C3 := cond3_at k
  have C4 := cond4_at k
  have C9 := cond9_at k
  have C10 := cond10_at k
  have C13 := (cond13_at k).2 hk1
  have C14 := (cond14_at k).2 hk1
  have K1 := chk1_at k
  have K2 := chk2_at k
  have K3 := chk3_at k
  have K4 := chk4_at k
  have K5 := chk5_at k
  iintro ⟨⟨%W, HW⟩, HCR, HTR, HMR, HWR⟩
  ihave HCO := (in_open c csem cblk cslot (fun _ => XC) k.val hk2) $$ HCR
  ihave HTO := (in_open c tsem tblk tslot (fun _ => XT) k.val hk2) $$ HTR
  icases HCO with ⟨HcR, HcB, ⟨%fc', HcF⟩, ⟨%fc, HcS⟩, HcL⟩
  icases HTO with ⟨HtR, HtB, ⟨%ft', HtF⟩, ⟨%ft, HtS⟩, HtL⟩
  ihave HMO := (out_open c msem mblk mslot (ZM c XC XT v0 v2 v3 v5) k.val hk50) $$ HMR
  ihave HWO := (out_open c wsem wblk wslot (ZW c XC XT v0 v2 v3 v5) k.val hk50) $$ HWR
  icases HMO with ⟨HmD, HmT, ⟨%hm, HmB⟩, ⟨%gm, %fbm, %hgm, HmF⟩, ⟨%fm, HmS⟩, HmL⟩
  icases HWO with ⟨HwD, HwT, ⟨%hw, HwB⟩, ⟨%gw, %fbw, %hgw, HwF⟩, ⟨%fw, HwS⟩, HwL⟩
  dsimp only [tripG]
  sl_unfold [k0_t1_body]
  sl_exec
  sl_step
  isplitr
  · ipureintro
    obtain ⟨e1, e2, e3, e4⟩ := (by decide +kernel : ∀ k : Trip, trip_mid.sl.v104_r0 k = wN (k.val + 1) ∧ trip_mid.sl.v203_r0 k = wC (k.val + 1)
      ∧ trip_mid.sl.v230_r0 k = wP (k.val + 1) ∧ trip_mid.sl.v88_r0 k = wG (k.val + 1)) k
    rw [e1, e2, e3, e4]
  isplitl [HW]; · iexists _; iexact HW
  isplitl [HcR HcF_src HcF_dst HcF HcL]
  · iapply (in_close c csem cblk cslot (fun _ => XC) k.val hk2)
    isplitl [HcR]; · iexact HcR
    isplitl [HcF_src]; · iexact HcF_src
    isplitl [HcL]; · iexists _; iexact HcL
    isplitl [HcF_dst]; · iexists _; iexact HcF_dst
    iexact HcF
  isplitl [HtR HtF_src HtF_dst HtF HtL]
  · iapply (in_close c tsem tblk tslot (fun _ => XT) k.val hk2)
    isplitl [HtR]; · iexact HtR
    isplitl [HtF_src]; · iexact HtF_src
    isplitl [HtL]; · iexists _; iexact HtL
    isplitl [HtF_dst]; · iexists _; iexact HtF_dst
    iexact HtF
  have hgm' : (mslot (Ring.sl 2 k.val)).view.read (Elt F) (trip_mid.sl.HmS_w2 c XC XT v0 v2 v3 v5 k K2 K3 K5 fm) = ZM c XC XT v0 v2 v3 v5 (Ring.bk 50 k.val) := by
    unfold trip_mid.sl.HmS_w2 trip_mid.sl.v186_r0 trip_mid.sl.r trip_mid.sl.v152_r0 trip_mid.sl.v155_r0
    exact mix_stored c XC XT v0 v2 v3 v5 k (Ring.sl 2 k.val) (off15_at k) (off16_at k) (off18_at k) _ _ _ (Ring.bk 50 k.val) _ _ _
  isplitl [HmD HmT HmF_dst HmF_src HmF HmL]
  · iapply (out_close c msem mblk mslot (ZM c XC XT v0 v2 v3 v5) k.val hk1 hk50 gm fbm hgm _ hm hgm')
    isplitl [HmD]; · iexact HmD
    isplitl [HmT]; · iexact HmT
    isplitl [HmF_dst]; · iexact HmF_dst
    isplitl [HmL]; · iexact HmL
    isplitl [HmF_src]; · iexact HmF_src
    iexact HmF
  have hgw' : (wslot (Ring.sl 2 k.val)).view.read (Elt F) (trip_mid.sl.HwS_w1 c XC XT v0 v2 v3 v5 k K2 K3 K4 fw) = ZW c XC XT v0 v2 v3 v5 (Ring.bk 50 k.val) := by
    unfold trip_mid.sl.HwS_w1 trip_mid.sl.v152_r0 trip_mid.sl.v155_r0
    exact gate_stored c XC XT v0 v2 v3 v5 k (Ring.sl 2 k.val) (off15_at k) (off16_at k) (off17_at k) _ _ _ (Ring.bk 50 k.val) _ _ _
  iapply (out_close c wsem wblk wslot (ZW c XC XT v0 v2 v3 v5) k.val hk1 hk50 gw fbw hgw _ hw hgw')
  isplitl [HwD]; · iexact HwD
  isplitl [HwT]; · iexact HwT
  isplitl [HwF_dst]; · iexact HwF_dst
  isplitl [HwL]; · iexact HwL
  isplitl [HwF_src]; · iexact HwF_src
  iexact HwF

set_option maxHeartbeats 1600000 in  -- the region is 287 statements, run in one go
set_option backward.proofsInPublic true in
/-- The last trip: nothing fetched, after it the inputs are at rest. -/
theorem trip_last (k : Trip) (hk : k.val = 49) :
    iprop((∃ W, owes (c : Thread nD τ) 0 W) ∗ CRing c XC k.val ∗ TRing c XT k.val ∗ MRing c XC XT v0 v2 v3 v5 k.val ∗ WRing c XC XT v0 v2 v3 v5 k.val)
    ⊢ wp frame (wpE (defs₀ (F := F)) 𝒱₀ (c : Thread nD τ) none) Set.univ
        (tripG arg0 harg0 arg1 harg1 arg2 harg2 arg3 harg3 v0 v2 v3 v5 i0 i1 k (accW k.val))
        (fun r => iprop(⌜r = accW (k.val + 1)⌝ ∗ (∃ W, owes (c : Thread nD τ) 0 W) ∗ CIdle c XC ∗ TIdle c XT ∗ MRing c XC XT v0 v2 v3 v5 (k.val + 1) ∗ WRing c XC XT v0 v2 v3 v5 (k.val + 1))) := by
  have hk2 : ¬ k.val + 1 < 50 := by omega
  have hk1 : 1 ≤ k.val := by omega
  have hk50 := k.lt
  have C1 : ¬ k0_cond1 k (wG k.val) = 1#1 := fun h => hk2 ((cond1_at k).1 h)
  have C2 : ¬ k0_cond2 k (wG k.val) = 1#1 := fun h => hk2 ((cond2_at k).1 h)
  have C3 := cond3_at k
  have C4 := cond4_at k
  have C9 := cond9_at k
  have C10 := cond10_at k
  have C13 := (cond13_at k).2 hk1
  have C14 := (cond14_at k).2 hk1
  have K1 := chk1_at k
  have K2 := chk2_at k
  have K3 := chk3_at k
  have K4 := chk4_at k
  have K5 := chk5_at k
  iintro ⟨⟨%W, HW⟩, HCR, HTR, HMR, HWR⟩
  ihave HCO := (in_last c csem cblk cslot (fun _ => XC) k.val) $$ HCR
  ihave HTO := (in_last c tsem tblk tslot (fun _ => XT) k.val) $$ HTR
  icases HCO with ⟨HcR, ⟨%fc', HcF⟩, ⟨%fc, HcS⟩, HcL⟩
  icases HTO with ⟨HtR, ⟨%ft', HtF⟩, ⟨%ft, HtS⟩, HtL⟩
  ihave HMO := (out_open c msem mblk mslot (ZM c XC XT v0 v2 v3 v5) k.val hk50) $$ HMR
  ihave HWO := (out_open c wsem wblk wslot (ZW c XC XT v0 v2 v3 v5) k.val hk50) $$ HWR
  icases HMO with ⟨HmD, HmT, ⟨%hm, HmB⟩, ⟨%gm, %fbm, %hgm, HmF⟩, ⟨%fm, HmS⟩, HmL⟩
  icases HWO with ⟨HwD, HwT, ⟨%hw, HwB⟩, ⟨%gw, %fbw, %hgw, HwF⟩, ⟨%fw, HwS⟩, HwL⟩
  dsimp only [tripG]
  sl_unfold [k0_t1_body]
  sl_exec
  sl_step
  isplitr
  · ipureintro
    obtain ⟨e1, e2, e3, e4⟩ := (by decide +kernel : ∀ k : Trip, trip_last.sl.v104_r0 k = wN (k.val + 1) ∧ trip_last.sl.v203_r0 k = wC (k.val + 1)
      ∧ trip_last.sl.v230_r0 k = wP (k.val + 1) ∧ trip_last.sl.v88_r0 k = wG (k.val + 1)) k
    rw [e1, e2, e3, e4]
  isplitl [HW]; · iexists _; iexact HW
  isplitl [HcR HcF_src HcF_dst HcF HcS HcL]
  · iapply (in_end c csem cblk cslot (fun _ => XC) k.val hk)
    isplitl [HcR]; · iexact HcR
    isplitl [HcF_src]; · iexact HcF_src
    isplitl [HcF_dst]; · iexists _; iexact HcF_dst
    isplitl [HcF]; · iexact HcF
    isplitl [HcS]; · iexists _; iexact HcS
    iexact HcL
  isplitl [HtR HtF_src HtF_dst HtF HtS HtL]
  · iapply (in_end c tsem tblk tslot (fun _ => XT) k.val hk)
    isplitl [HtR]; · iexact HtR
    isplitl [HtF_src]; · iexact HtF_src
    isplitl [HtF_dst]; · iexists _; iexact HtF_dst
    isplitl [HtF]; · iexact HtF
    isplitl [HtS]; · iexists _; iexact HtS
    iexact HtL
  have hgm' : (mslot (Ring.sl 2 k.val)).view.read (Elt F) (trip_last.sl.HmS_w2 c XC XT v0 v2 v3 v5 k K2 K3 K5 fm) = ZM c XC XT v0 v2 v3 v5 (Ring.bk 50 k.val) := by
    unfold trip_last.sl.HmS_w2 trip_last.sl.v186_r0 trip_last.sl.r trip_last.sl.v152_r0 trip_last.sl.v155_r0
    exact mix_stored c XC XT v0 v2 v3 v5 k (Ring.sl 2 k.val) (off15_at k) (off16_at k) (off18_at k) _ _ _ (Ring.bk 50 k.val) _ _ _
  isplitl [HmD HmT HmF_dst HmF_src HmF HmL]
  · iapply (out_close c msem mblk mslot (ZM c XC XT v0 v2 v3 v5) k.val hk1 hk50 gm fbm hgm _ hm hgm')
    isplitl [HmD]; · iexact HmD
    isplitl [HmT]; · iexact HmT
    isplitl [HmF_dst]; · iexact HmF_dst
    isplitl [HmL]; · iexact HmL
    isplitl [HmF_src]; · iexact HmF_src
    iexact HmF
  have hgw' : (wslot (Ring.sl 2 k.val)).view.read (Elt F) (trip_last.sl.HwS_w1 c XC XT v0 v2 v3 v5 k K2 K3 K4 fw) = ZW c XC XT v0 v2 v3 v5 (Ring.bk 50 k.val) := by
    unfold trip_last.sl.HwS_w1 trip_last.sl.v152_r0 trip_last.sl.v155_r0
    exact gate_stored c XC XT v0 v2 v3 v5 k (Ring.sl 2 k.val) (off15_at k) (off16_at k) (off17_at k) _ _ _ (Ring.bk 50 k.val) _ _ _
  iapply (out_close c wsem wblk wslot (ZW c XC XT v0 v2 v3 v5) k.val hk1 hk50 gw fbw hgw _ hw hgw')
  isplitl [HwD]; · iexact HwD
  isplitl [HwT]; · iexact HwT
  isplitl [HwF_dst]; · iexact HwF_dst
  isplitl [HwL]; · iexact HwL
  isplitl [HwF_src]; · iexact HwF_src
  iexact HwF

end Trip

end Cert.Proof.Gate

end
-- ==== Proof.Body.lean ====
/-
  The kernel body: the weights and biases loaded, block 0 of both inputs issued, the fifty trips, the last block of both
  results landed.
-/
module

public import proofs.«01_k».proof.Proof.Trip
public import proofs.«01_k».proof.Proof.Gen.KernelIdeal.Loops

@[expose] public section

noncomputable section

namespace Cert.Proof.Gate

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section
variable (c : Dev nD) (XC : Buf (Elt F) (cM.view.loc (c : Thread nD τ))) (XT : Buf (Elt F) (tM.view.loc (c : Thread nD τ)))
  (arg0 : Memref sig .tc .vmem S128x64 .f32) (harg0 : arg0.IsWhole) (arg1 : Memref sig .tc .vmem S1x64 .f32) (harg1 : arg1.IsWhole)
  (arg2 : Memref sig .tc .vmem S64x64 .f32) (harg2 : arg2.IsWhole) (arg3 : Memref sig .tc .vmem S1x64 .f32) (harg3 : arg3.IsWhole)

/-! ## The loop -/

section Loop
variable (v0 : Vec F S128x64 .f32) (v2 : FVec F S1x64 .f32) (v3 : Vec F S64x64 .f32) (v5 : FVec F S1x64 .f32) (i0 i1 : BitVec 32)

/-- What is held before trip `k`: input rings under way until the last trip, output rings from the first. -/
def stateAt (k : ℕ) : sProp 𝕄 :=
  iprop((∃ W, owes (c : Thread nD τ) 0 W) ∗ (if k < 50 then CRing c XC k else CIdle c XC) ∗ (if k < 50 then TRing c XT k else TIdle c XT)
    ∗ (if k = 0 then MIdle c else MRing c XC XT v0 v2 v3 v5 k) ∗ (if k = 0 then WIdle c else WRing c XC XT v0 v2 v3 v5 k))

/-- Before the first trip, -/
theorem state_first : iprop((∃ W, owes (c : Thread nD τ) 0 W) ∗ CRing c XC 0 ∗ TRing c XT 0 ∗ MIdle c ∗ WIdle c) ⊢ stateAt c XC XT v0 v2 v3 v5 0 := by
  unfold stateAt
  rw [if_pos (show 0 < 50 by omega), if_pos (show 0 < 50 by omega), if_pos rfl, if_pos rfl]
/-- and after the last. -/
theorem state_last (n : ℕ) (hn : n = 50) : stateAt c XC XT v0 v2 v3 v5 n
    ⊢ iprop((∃ W, owes (c : Thread nD τ) 0 W) ∗ CIdle c XC ∗ TIdle c XT ∗ MRing c XC XT v0 v2 v3 v5 50 ∗ WRing c XC XT v0 v2 v3 v5 50) := by
  subst hn
  unfold stateAt
  rw [if_neg (show ¬ 50 < 50 by omega), if_neg (show ¬ 50 < 50 by omega), if_neg (show ¬ 50 = 0 by omega), if_neg (show ¬ 50 = 0 by omega)]

/-- One trip takes the state and the carried words to the next. -/
theorem trip_step (k : Trip) :
    stateAt c XC XT v0 v2 v3 v5 k.val ⊢ wp frame (wpE (defs₀ (F := F)) 𝒱₀ (c : Thread nD τ) none) Set.univ
      (tripG arg0 harg0 arg1 harg1 arg2 harg2 arg3 harg3 v0 v2 v3 v5 i0 i1 k (accW k.val))
      (fun r => iprop(⌜r = accW (k.val + 1)⌝ ∗ stateAt c XC XT v0 v2 v3 v5 (k.val + 1))) := by
  have hk := k.lt
  unfold stateAt
  rw [if_pos hk, if_pos hk, if_neg (Nat.succ_ne_zero _), if_neg (Nat.succ_ne_zero _)]
  by_cases h0 : k.val = 0
  · rw [if_pos h0, if_pos h0, if_pos (show k.val + 1 < 50 by omega), if_pos (show k.val + 1 < 50 by omega)]
    exact trip_first c XC XT arg0 harg0 arg1 harg1 arg2 harg2 arg3 harg3 v0 v2 v3 v5 i0 i1 k h0
  · rw [if_neg h0, if_neg h0]
    by_cases h1 : k.val + 1 < 50
    · rw [if_pos h1, if_pos h1]
      exact trip_mid c XC XT arg0 harg0 arg1 harg1 arg2 harg2 arg3 harg3 v0 v2 v3 v5 i0 i1 k (by omega) h1
    · rw [if_neg h1, if_neg h1]
      exact trip_last c XC XT arg0 harg0 arg1 harg1 arg2 harg2 arg3 harg3 v0 v2 v3 v5 i0 i1 k (by omega)

/-- Before trip `k`: the carried words are step `k`'s and the rings stand at `k`. -/
abbrev gateInv (k : ℕ) (acc : Words) : sProp 𝕄 := iprop(⌜acc = accW k⌝ ∗ stateAt c XC XT v0 v2 v3 v5 k)
theorem gateInv_step (k : Trip) (acc : Words) :
    gateInv c XC XT v0 v2 v3 v5 k.val acc ⊢ wp frame (wpE (defs₀ (F := F)) 𝒱₀ (c : Thread nD τ) none) Set.univ
      (tripG arg0 harg0 arg1 harg1 arg2 harg2 arg3 harg3 v0 v2 v3 v5 i0 i1 k acc) (gateInv c XC XT v0 v2 v3 v5 (k.val + 1)) := by
  iintro ⟨%e, H⟩
  subst e
  iapply (trip_step c XC XT arg0 harg0 arg1 harg1 arg2 harg2 arg3 harg3 v0 v2 v3 v5 i0 i1 k)
  iexact H
end Loop

/-! ## The body -/

/-- The body on the four staged operands. -/
abbrev bodyG : Prog (TpuEff nD τ sig (Elt F) Λ₀ .tc) PUnit :=
  cc0__gate_body arg0 harg0 arg1 harg1 arg2 harg2 arg3 harg3 cM (Memref.isWhole_whole _) tM (Memref.isWhole_whole _) mM (Memref.isWhole_whole _) wM (Memref.isWhole_whole _)
    cB (Memref.isWhole_whole _) cc0_scoped1 tB (Memref.isWhole_whole _) cc0_scoped3 mB (Memref.isWhole_whole _) cc0_scoped5 wB (Memref.isWhole_whole _) cc0_scoped7

/-- The four operands as the body loads them. -/
abbrev ld0 (g : Buf (Elt F) (arg0.view.loc (c : Thread nD τ))) : Vec F S128x64 .f32 := arg0.view.readAt (Elt F) (Rect.unit (s := S128x64) ![0, 0] S128x64.size inb_S128x64_S128x64_0_0).toLoadRect g
abbrev ld1 (g : Buf (Elt F) (arg1.view.loc (c : Thread nD τ))) : Vec F S1x64 .f32 := arg1.view.readAt (Elt F) (Rect.unit (s := S1x64) ![0, 0] S1x64.size inb_S1x64_S1x64_0_0).toLoadRect g
abbrev ld2 (g : Buf (Elt F) (arg2.view.loc (c : Thread nD τ))) : Vec F S64x64 .f32 := arg2.view.readAt (Elt F) (Rect.unit (s := S64x64) ![0, 0] S64x64.size inb_S64x64_S64x64_0_0).toLoadRect g

variable (g0 : Buf (Elt F) (arg0.view.loc (c : Thread nD τ))) (g1 : Buf (Elt F) (arg1.view.loc (c : Thread nD τ)))
  (g2 : Buf (Elt F) (arg2.view.loc (c : Thread nD τ))) (g3 : Buf (Elt F) (arg3.view.loc (c : Thread nD τ)))

/-- The staged operands, held. -/
abbrev staged : sProp 𝕄 := iprop(own c arg0 g0 ∗ own c arg1 g1 ∗ own c arg2 g2 ∗ own c arg3 g3)

/-- From both inputs whole, both results at anything and the rings at rest, the body ends with the inputs as they were
    and every block of both results at its value. -/
theorem bodyRun (Q : PUnit → sProp 𝕄) :
    iprop((staged c arg0 arg1 arg2 arg3 g0 g1 g2 g3 ∗ CIdle c XC ∗ TIdle c XT ∗ MIdle c ∗ WIdle c ∗ (∃ W, owes (c : Thread nD τ) 0 W))
      ∗ (staged c arg0 arg1 arg2 arg3 g0 g1 g2 g3 ∗ CIdle c XC ∗ TIdle c XT
          ∗ MDone c XC XT (ld0 c arg0 g0) (k0_pay7 (ld1 c arg1 g1)) (ld2 c arg2 g2) (k0_pay8 (ld1 c arg3 g3))
          ∗ WDone c XC XT (ld0 c arg0 g0) (k0_pay7 (ld1 c arg1 g1)) (ld2 c arg2 g2) (k0_pay8 (ld1 c arg3 g3))
          ∗ (∃ W, owes (c : Thread nD τ) 0 W) -∗ Q ⟨⟩))
      ⊢ wp frame (wpE (defs₀ (F := F)) 𝒱₀ (c : Thread nD τ) none) Set.univ (bodyG arg0 harg0 arg1 harg1 arg2 harg2 arg3 harg3) Q := by
  iintro ⟨⟨⟨H0, H1, H2, H3⟩, HC, HT, HM, HWr, ⟨%W, HW⟩⟩, Hk⟩
  ihave HCO := (in_start c csem cblk cslot (fun _ => XC)) $$ HC
  ihave HTO := (in_start c tsem tblk tslot (fun _ => XT)) $$ HT
  icases HCO with ⟨HcR, HcB, ⟨%fc, HcS⟩, HcS', HcL, HcL'⟩
  icases HTO with ⟨HtR, HtB, ⟨%ft, HtS⟩, HtS', HtL, HtL'⟩
  sl_exec
  ihave HCI := (in_begun c csem cblk cslot (fun _ => XC)) $$ [HcR HcL HcS' HcL']
  · isplitl [HcR]; · iexact HcR
    isplitl [HcL]; · iexists _; iexact HcL
    isplitl [HcS']; · iexact HcS'
    iexact HcL'
  ihave HTI := (in_begun c tsem tblk tslot (fun _ => XT)) $$ [HtR HtL HtS' HtL']
  · isplitl [HtR]; · iexact HtR
    isplitl [HtL]; · iexists _; iexact HtL
    isplitl [HtS']; · iexact HtS'
    iexact HtL'
  ihave HI : iprop(⌜((1#32, 0#32, 1#32, 0#32, 0#32, 0#32, 0#32, 0#32, 0#32) : Words) = accW 0⌝
      ∗ stateAt c XC XT (ld0 c arg0 g0) (k0_pay7 (ld1 c arg1 g1)) (ld2 c arg2 g2) (k0_pay8 (ld1 c arg3 g3)) 0) $$ [HW HCI HTI HM HWr]
  · isplitr; · ipureintro; rfl
    iapply (state_first c XC XT _ _ _ _)
    isplitl [HW]; · iexists W; iexact HW
    isplitl [HCI]; · iexact HCI
    isplitl [HTI]; · iexact HTI
    isplitl [HM]; · iexact HM
    iexact HWr
  iapply (Scf.wp_for_bind frame (wpE (defs₀ (F := F)) 𝒱₀ (c : Thread nD τ) none) Set.univ _ _ _ k0_t1_ok
    (1#32, 0#32, 1#32, 0#32, 0#32, 0#32, 0#32, 0#32, 0#32) _
    (gateInv c XC XT (ld0 c arg0 g0) (k0_pay7 (ld1 c arg1 g1)) (ld2 c arg2 g2) (k0_pay8 (ld1 c arg3 g3)))
    (gateInv_step c XC XT arg0 harg0 arg1 harg1 arg2 harg2 arg3 harg3 (ld0 c arg0 g0) (k0_pay7 (ld1 c arg1 g1)) (ld2 c arg2 g2) (k0_pay8 (ld1 c arg3 g3)) 0#32 1#32)) $$ [HI]
  · iexact HI
  iintro %acc Hinv
  icases Hinv with ⟨%e, HS⟩
  have e50 : Scf.trips k0_t1_loop.lb k0_t1_loop.ub k0_t1_loop.st = 50 := trips_eq
  rw [e50] at e
  subst e
  ihave HS' := (state_last c XC XT _ _ _ _ _ e50) $$ HS
  icases HS' with ⟨⟨%W', HW⟩, HC, HT, HM, HWr⟩
  ihave HMO := (out_last c msem mblk mslot (ZM c XC XT (ld0 c arg0 g0) (k0_pay7 (ld1 c arg1 g1)) (ld2 c arg2 g2) (k0_pay8 (ld1 c arg3 g3)))) $$ HM
  ihave HWO := (out_last c wsem wblk wslot (ZW c XC XT (ld0 c arg0 g0) (k0_pay7 (ld1 c arg1 g1)) (ld2 c arg2 g2) (k0_pay8 (ld1 c arg3 g3)))) $$ HWr
  icases HMO with ⟨HmD, ⟨%gm, %fbm, %hgm, HmF⟩, HmS, HmL⟩
  icases HWO with ⟨HwD, ⟨%gw, %fbw, %hgw, HwF⟩, HwS, HwL⟩
  have K6 := chk6_end
  have K7 := chk7_end
  have K8 := chk8_end
  sl_exec
  sl_step
  iapply Hk
  isplitl [H0 H1 H2 H3]
  · isplitl [H0]; · iexact H0
    isplitl [H1]; · iexact H1
    isplitl [H2]; · iexact H2
    iexact H3
  isplitl [HC]; · iexact HC
  isplitl [HT]; · iexact HT
  isplitl [HmD HmF_dst HmF_src HmF HmS HmL]
  · iapply (out_end c msem mblk mslot (ZM c XC XT (ld0 c arg0 g0) (k0_pay7 (ld1 c arg1 g1)) (ld2 c arg2 g2) (k0_pay8 (ld1 c arg3 g3))) gm fbm hgm)
    isplitl [HmD]; · iexact HmD
    isplitl [HmF_dst]; · iexact HmF_dst
    isplitl [HmF_src]; · iexact HmF_src
    isplitl [HmF]; · iexact HmF
    isplitl [HmS]; · iexact HmS
    iexact HmL
  isplitl [HwD HwF_dst HwF_src HwF HwS HwL]
  · iapply (out_end c wsem wblk wslot (ZW c XC XT (ld0 c arg0 g0) (k0_pay7 (ld1 c arg1 g1)) (ld2 c arg2 g2) (k0_pay8 (ld1 c arg3 g3))) gw fbw hgw)
    isplitl [HwD]; · iexact HwD
    isplitl [HwF_dst]; · iexact HwF_dst
    isplitl [HwF_src]; · iexact HwF_src
    isplitl [HwF]; · iexact HwF
    isplitl [HwS]; · iexact HwS
    iexact HwL
  iexists _; iexact HW

end

end Cert.Proof.Gate

end
-- ==== Proof.Sets.lean ====
/-
  An array whole is its fifty blocks, a buffer whole its two slots; and back.
-/
module

public import proofs.«01_k».proof.Proof.Rings

@[expose] public section

noncomputable section

namespace Cert.Proof.Gate

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Element sets -/

abbrev blkRect (b : Fin 50) : Rect S400000x64 := Rect.unit (s := S400000x64) (blkOff b) S8000x64.size (blkOff_inb b)
abbrev slotRect (s : Fin 2) : Rect S2x8000x64 := Rect.unit (s := S2x8000x64) (slotOff s) S1x8000x64.size (slotOff_inb s)

theorem blkRect_disjoint (b b' : Fin 50) (h : b ≠ b') : Disjoint (blkRect b).set (blkRect b').set :=
  Ring.lead_disjoint (s := S400000x64) (0 : Fin 2) 8000 blkOff S8000x64.size blkOff_inb (by decide +kernel) rfl b b' h
theorem blkRect_cover : Finset.univ.biUnion (fun b => (blkRect b).set) = Finset.univ :=
  Ring.lead_cover (s := S400000x64) (0 : Fin 2) 8000 blkOff S8000x64.size blkOff_inb (by decide +kernel) (by decide +kernel) rfl (by decide +kernel) rfl
theorem slotRect_disjoint (b b' : Fin 2) (h : b ≠ b') : Disjoint (slotRect b).set (slotRect b').set :=
  Ring.lead_disjoint (s := S2x8000x64) (0 : Fin 3) 1 slotOff S1x8000x64.size slotOff_inb (by decide +kernel) rfl b b' h
theorem slotRect_cover : Finset.univ.biUnion (fun b => (slotRect b).set) = Finset.univ :=
  Ring.lead_cover (s := S2x8000x64) (0 : Fin 3) 1 slotOff S1x8000x64.size slotOff_inb (by decide +kernel) (by decide +kernel) rfl (by decide +kernel) rfl

/-- Slices of a whole view by rectangles that cover its shape cover the buffer. -/
theorem slice_cover {κ : Kind} {sp : Space} {s : Shape} {e : EltTy} {B : Type} [Fintype B] (v : View sig κ sp s e) (hv : v.set = Finset.univ)
    (R : B → Rect s) (hR : Finset.univ.biUnion (fun b => (R b).set) = Finset.univ) :
    Finset.biUnion (β := v.ty.Idx) Finset.univ (fun b => (v.slice (R b)).set) = Finset.univ := by
  ext y
  simp only [Finset.mem_biUnion, Finset.mem_univ, true_and, iff_true]
  have hy : y ∈ v.set := hv ▸ Finset.mem_univ y
  obtain ⟨x, -, rfl⟩ := Finset.mem_map.1 hy
  have hx : x ∈ Finset.univ.biUnion (fun b => (R b).set) := hR ▸ Finset.mem_univ x
  obtain ⟨b, -, hb⟩ := Finset.mem_biUnion.1 hx
  exact ⟨b, by rw [View.set_slice]; exact Finset.mem_map_of_mem _ hb⟩
theorem slice_disjoint {κ : Kind} {sp : Space} {s : Shape} {e : EltTy} (v : View sig κ sp s e) (r r' : Rect s) (h : Disjoint r.set r'.set) :
    Disjoint (v.slice r).set (v.slice r').set := by
  rw [View.set_slice, View.set_slice]; exact (Finset.disjoint_map _).2 h

section
variable (M : Memref sig .tc .hbm S4x100000x64 .f32) (hM : M.IsWhole)
theorem blk_disjoint (b b' : Fin 50) (h : b ≠ b') : Disjoint (blk M hM b).view.set (blk M hM b').view.set :=
  slice_disjoint (rows M hM).view _ _ (blkRect_disjoint b b' h)
theorem blk_cover : Finset.biUnion (β := M.view.ty.Idx) Finset.univ (fun b => (blk M hM b).view.set) = Finset.univ :=
  slice_cover (rows M hM).view ((View.set_reshape _ _).trans hM.set_eq_univ) blkRect blkRect_cover
end
section
variable (B : Memref sig .tc .vmem S2x8000x64 .f32) (hB : B.IsWhole)
theorem slot_set (s : Fin 2) : (slot B s).view.set = (B.view.slice (slotRect s)).set := View.set_reshape _ _
theorem slot_disjoint (b b' : Fin 2) (h : b ≠ b') : Disjoint (slot B b).view.set (slot B b').view.set := by
  have := slice_disjoint B.view _ _ (slotRect_disjoint b b' h)
  rw [← slot_set, ← slot_set] at this; exact this
include hB in
theorem slot_cover : Finset.biUnion (β := B.view.ty.Idx) Finset.univ (fun b => (slot B b).view.set) = Finset.univ := by
  have h := slice_cover B.view hB.set_eq_univ slotRect slotRect_cover
  rw [show (fun b => ((slot B b).view.set : Finset B.view.ty.Idx)) = fun b => (B.view.slice (slotRect b)).set from funext (slot_set B)]; exact h
end

/-! ## Held whole, held in pieces -/

section
variable (c : Dev nD)

theorem bigSep_two (Φ : Fin 2 → sProp 𝕄) : bigSep Finset.univ Φ = iprop(Φ 0 ∗ Φ 1) :=
  bigSep_univ_eq_bigSepL [(0 : Fin 2), (1 : Fin 2)] (by decide) (by decide) Φ

section
variable (M : Memref sig .tc .hbm S4x100000x64 .f32) (hM : M.IsWhole)

/-- An array held whole is its blocks at home. -/
theorem blocks_home (X : Buf (Elt F) (M.view.loc (c : Thread nD τ))) :
    (M.view.loc (c : Thread nD τ) ↦{fullShare} X : sProp 𝕄) = bigSep Finset.univ (home c (blk M hM) (fun _ => X)) :=
  Ring.pointsTo_blocks (ℓ := M.view.loc (c : Thread nD τ)) (fun b => (blk M hM b).view.set) (blk_disjoint M hM) (blk_cover M hM) X
/-- An array held whole may be written block by block; -/
theorem blocks_todo (X : Buf (Elt F) (M.view.loc (c : Thread nD τ))) :
    (M.view.loc (c : Thread nD τ) ↦{fullShare} X : sProp 𝕄) ⊢ bigSep Finset.univ (todo c (blk M hM)) := by
  rw [blocks_home c M hM X]
  exact bigSep_mono fun b _ => (by iintro H; iexists X; iexact H : home c (blk M hM) (fun _ => X) b ⊢ todo c (blk M hM) b)
/-- and once every block is, the array held whole reads every block at its value. -/
theorem blocks_done (Z : Fin 50 → S8000x64.Idx → Elt F .f32) :
    bigSep Finset.univ (done c (blk M hM) Z)
      ⊢ (iprop(∃ X, ⌜∀ b, (blk M hM b).view.read (Elt F) X = Z b⌝ ∗ M.view.loc (c : Thread nD τ) ↦{fullShare} X) : sProp 𝕄) := by
  have : Nonempty (Buf (Elt F) (M.view.loc (c : Thread nD τ))) := ⟨fun _ => Classical.choice inferInstance⟩
  refine (bigSep_exists_pi Finset.univ (fun b (f : Buf (Elt F) (M.view.loc (c : Thread nD τ))) =>
    (iprop(⌜(blk M hM b).view.read (Elt F) f = Z b⌝ ∗ own c (blk M hM b) f) : sProp 𝕄))).trans ?_
  iintro ⟨%fs, H⟩
  ihave H1 := (bigSep_pure_sep Finset.univ (fun b => (blk M hM b).view.read (Elt F) (fs b) = Z b) (fun b => (own c (blk M hM b) (fs b) : sProp 𝕄))) $$ H
  icases H1 with ⟨%hZ, H⟩
  ihave H2 := (pointsTo_biUnion_join (Ix := Unit) (Name := ℕ) (U := UU nD τ) (Lvl := ℕ) (q := fullShare) (ℓ := M.view.loc (c : Thread nD τ)) Finset.univ
    (fun b => (blk M hM b).view.set) fs (fs 0) (fun b _ b' _ h => blk_disjoint M hM b b' h)) $$ H
  icases H2 with ⟨%X, %hX, H⟩
  ihave H := (entails_of_eq (congrArg (fun S => (M.view.loc (c : Thread nD τ) ↦[S]{fullShare} X : sProp 𝕄)) (blk_cover M hM))) $$ H
  iexists X
  isplitr
  · ipureintro
    exact fun b => (View.read_congr fun i hi => hX b (Finset.mem_univ _) i hi).trans (hZ b (Finset.mem_univ _))
  · iexact H
end

section
variable (B : Memref sig .tc .vmem S2x8000x64 .f32) (hB : B.IsWhole)
include hB in
/-- A buffer held whole is its two slots held, -/
theorem slots_split : iprop(∃ f : Buf (Elt F) (B.view.loc (c : Thread nD τ)), B.view.loc (c : Thread nD τ) ↦{fullShare} f)
    ⊢ (iprop((∃ f, own c (slot B 0) f) ∗ (∃ f, own c (slot B 1) f)) : sProp 𝕄) := by
  iintro ⟨%f, H⟩
  ihave H2 := (entails_of_eq ((Ring.pointsTo_blocks (Ix := Unit) (Name := ℕ) (U := UU nD τ) (Lvl := ℕ) (q := fullShare) (ℓ := B.view.loc (c : Thread nD τ))
    (fun b => (slot B b).view.set) (slot_disjoint B) (slot_cover B hB) f).trans (bigSep_two _))) $$ H
  icases H2 with ⟨H0, H1⟩
  isplitl [H0]
  · iexists f; iexact H0
  · iexists f; iexact H1
include hB in
/-- and back. -/
theorem slots_join : (iprop((∃ f, own c (slot B 0) f) ∗ (∃ f, own c (slot B 1) f)) : sProp 𝕄)
    ⊢ iprop(∃ f : Buf (Elt F) (B.view.loc (c : Thread nD τ)), B.view.loc (c : Thread nD τ) ↦{fullShare} f) := by
  iintro ⟨⟨%f0, H0⟩, H1⟩
  iapply (Ring.pointsTo_blocks_join_exists (ℓ := B.view.loc (c : Thread nD τ)) (fun b => (slot B b).view.set) (slot_disjoint B) (slot_cover B hB) f0)
  irw [bigSep_two]
  isplitl [H0]
  · iexists f0; iexact H0
  · iexact H1
end
end

end Cert.Proof.Gate

end
-- ==== Proof.Launch.lean ====
/-
  The launch: what the kernel's one region holds before and after its body, the staged weights and biases, and the run
  of the whole program: both inputs and the four parameters as launched, every block of both results at its value.
-/
module

public import proofs.«01_k».proof.Proof.Body
public import proofs.«01_k».proof.Proof.Sets
public import proofs.«01_k».proof.Proof.Gen.KernelIdeal.Frame

@[expose] public section

noncomputable section

namespace Cert.Proof.Gate

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ) ℕ

/-! ## A ring at rest is its array, its buffer and its two semaphores -/

section
variable (c : Dev nD) (A : Fin 2 → DmaSems sig S_) (M : Memref sig .tc .hbm S4x100000x64 .f32) (hM : M.IsWhole)
  (B : Memref sig .tc .vmem S2x8000x64 .f32) (hB : B.IsWhole) (X : Buf (Elt F) (M.view.loc (c : Thread nD τ)))

include hB in
/-- An input ring, -/
theorem rest_in : iprop((M.view.loc (c : Thread nD τ) ↦{fullShare} X)
      ∗ (∃ f : Buf (Elt F) (B.view.loc (c : Thread nD τ)), B.view.loc (c : Thread nD τ) ↦{fullShare} f) ∗ cell c (A 0) ∗ cell c (A 1))
    ⊢ (Idle c A (slot B) (home c (blk M hM) (fun _ => X)) : sProp 𝕄) := by
  unfold Idle
  iintro ⟨HX, HB, H0, H1⟩
  ihave HX' := (entails_of_eq (blocks_home c M hM X)) $$ HX
  ihave HB' := (slots_split c B hB) $$ HB
  icases HB' with ⟨HB0, HB1⟩
  isplitl [HX']; · iexact HX'
  isplitl [HB0]; · iexact HB0
  isplitl [HB1]; · iexact HB1
  isplitl [H0]; · iexact H0
  iexact H1
include hB in
/-- and back; -/
theorem rest_in_end : (Idle c A (slot B) (home c (blk M hM) (fun _ => X)) : sProp 𝕄)
    ⊢ iprop((M.view.loc (c : Thread nD τ) ↦{fullShare} X)
      ∗ (∃ f : Buf (Elt F) (B.view.loc (c : Thread nD τ)), B.view.loc (c : Thread nD τ) ↦{fullShare} f) ∗ cell c (A 0) ∗ cell c (A 1)) := by
  unfold Idle
  iintro ⟨HX, HB0, HB1, H0, H1⟩
  isplitl [HX]; · iapply (entails_of_eq (blocks_home c M hM X).symm); iexact HX
  isplitl [HB0 HB1]
  · iapply (slots_join c B hB)
    isplitl [HB0]; · iexact HB0
    iexact HB1
  isplitl [H0]; · iexact H0
  iexact H1
include hB in
/-- an output ring before any block is written, -/
theorem rest_out : iprop((M.view.loc (c : Thread nD τ) ↦{fullShare} X)
      ∗ (∃ f : Buf (Elt F) (B.view.loc (c : Thread nD τ)), B.view.loc (c : Thread nD τ) ↦{fullShare} f) ∗ cell c (A 0) ∗ cell c (A 1))
    ⊢ (Idle c A (slot B) (todo c (blk M hM)) : sProp 𝕄) := by
  unfold Idle
  iintro ⟨HX, HB, H0, H1⟩
  ihave HX' := (blocks_todo c M hM X) $$ HX
  ihave HB' := (slots_split c B hB) $$ HB
  icases HB' with ⟨HB0, HB1⟩
  isplitl [HX']; · iexact HX'
  isplitl [HB0]; · iexact HB0
  isplitl [HB1]; · iexact HB1
  isplitl [H0]; · iexact H0
  iexact H1
include hB in
/-- and after every block is. -/
theorem rest_out_end (Z : Fin 50 → S8000x64.Idx → Elt F .f32) : (Idle c A (slot B) (done c (blk M hM) Z) : sProp 𝕄)
    ⊢ iprop((∃ X, ⌜∀ b, (blk M hM b).view.read (Elt F) X = Z b⌝ ∗ M.view.loc (c : Thread nD τ) ↦{fullShare} X)
      ∗ (∃ f : Buf (Elt F) (B.view.loc (c : Thread nD τ)), B.view.loc (c : Thread nD τ) ↦{fullShare} f) ∗ cell c (A 0) ∗ cell c (A 1)) := by
  unfold Idle
  iintro ⟨HX, HB0, HB1, H0, H1⟩
  isplitl [HX]; · iapply (blocks_done c M hM Z); iexact HX
  isplitl [HB0 HB1]
  · iapply (slots_join c B hB)
    isplitl [HB0]; · iexact HB0
    iexact HB1
  isplitl [H0]; · iexact H0
  iexact H1
end

/-! ## The kernel's own semaphores -/

/-- The two semaphores of each ring. -/
abbrev osem : Fin 8 → SemLoc sig := fun
  | 0 => .dma (csem 0).sem | 1 => .dma (csem 1).sem | 2 => .dma (tsem 0).sem | 3 => .dma (tsem 1).sem
  | 4 => .dma (msem 0).sem | 5 => .dma (msem 1).sem | 6 => .dma (wsem 0).sem | 7 => .dma (wsem 1).sem
theorem ownSemFacts : Pipeline.OwnSemFacts spec0 osem := by decide

omit [FloatOps F] in
theorem ownSems0_eq (c : Dev nD) : (Pipeline.ownSems0 (Ix := Unit) (Name := ℕ) (U := UU nD τ) (Lvl := ℕ) (Val := Elt F) (τ := τ) osem c : sProp 𝕄)
    = iprop(cell c (csem 0) ∗ cell c (csem 1) ∗ cell c (tsem 0) ∗ cell c (tsem 1) ∗ cell c (msem 0) ∗ cell c (msem 1) ∗ cell c (wsem 0) ∗ cell c (wsem 1)) := by
  unfold Pipeline.ownSems0
  exact bigSep_univ_eq_bigSepL [(0 : Fin 8), 1, 2, 3, 4, 5, 6, 7] (by decide) (by decide) _

section Run
variable (m : (ℓ : Loc nD τ sig) → Buf (Elt F) ℓ) (ρ : Dev nD → PrngReg)

/-! ## What the body is given and what it leaves -/

/-- The two inputs as launched. -/
abbrev inC (c : Dev nD) : Buf (Elt F) (cM.view.loc (c : Thread nD τ)) := m ((c : Thread nD τ).loc main_arg0)
abbrev inT (c : Dev nD) : Buf (Elt F) (tM.view.loc (c : Thread nD τ)) := m ((c : Thread nD τ).loc main_arg1)
/-- The staged weights and biases, as the body loads them. -/
def opW1 (c : Dev nD) : Vec F S128x64 .f32 := ld0 c (st0_0 t0_0) ((st0_0 t0_0).view.rep (iblk m c 0 t0_0))
def opB1 (c : Dev nD) : FVec F S1x64 .f32 := k0_pay7 (ld1 c (st0_1 t0_0) ((st0_1 t0_0).view.rep (iblk m c 1 t0_0)))
def opW2 (c : Dev nD) : Vec F S64x64 .f32 := ld2 c (st0_2 t0_0) ((st0_2 t0_0).view.rep (iblk m c 2 t0_0))
def opB2 (c : Dev nD) : FVec F S1x64 .f32 := k0_pay8 (ld1 c (st0_3 t0_0) ((st0_3 t0_0).view.rep (iblk m c 3 t0_0)))
/-- Block `b` of the mixed result and of the gate. -/
def outM (c : Dev nD) : Fin 50 → S8000x64.Idx → Elt F .f32 := ZM c (inC m c) (inT m c) (opW1 m c) (opB1 m c) (opW2 m c) (opB2 m c)
def outW (c : Dev nD) : Fin 50 → S8000x64.Idx → Elt F .f32 := ZW c (inC m c) (inT m c) (opW1 m c) (opB1 m c) (opW2 m c) (opB2 m c)

/-- Held before the body: the four rings at rest, no result block written; -/
def before (c : Dev nD) : sProp 𝕄 := iprop(CIdle c (inC m c) ∗ TIdle c (inT m c) ∗ MIdle c ∗ WIdle c)
/-- after it: the four rings at rest, every result block at its value. -/
def after (c : Dev nD) : sProp 𝕄 :=
  iprop(CIdle c (inC m c) ∗ TIdle c (inT m c) ∗ Idle c msem mslot (done c mblk (outM m c)) ∗ Idle c wsem wslot (done c wblk (outW m c)))

/-- The region's proof data: each staged operand left as fetched. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then before m c else after m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]

theorem Φ_first (c : Dev nD) (t : Fin (cfg0.N + 1)) (ht : t.val = 0) : (dats m 0 c).Φ t = before m c := by dsimp only [dats]; rw [if_pos ht]
theorem Φ_last (c : Dev nD) (t : Fin (cfg0.N + 1)) (ht : t.val ≠ 0) : (dats m 0 c).Φ t = after m c := by dsimp only [dats]; rw [if_neg ht]

/-! ## The body obligation -/

/-- The region's body is the kernel on the staging memrefs; -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
/-- at the one point, on that point's. -/
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) :=
  (congrFun defs_tc _).trans rfl

set_option backward.isDefEq.respectTransparency.types false in
/-- From the staged operands and the rings at rest, the body leaves the operands in place and the results computed. -/
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, before_w3, after_w0, after_w1, after_w2, after_w3]
  rw [Φ_first m c (t0_0 : Fin cfg0.N).castSucc rfl, Φ_last m c (t0_0 : Fin cfg0.N).succ (Nat.succ_ne_zero _)]
  unfold Dat.owesAt Pipeline.owesWithin
  rw [show (dats m 0 c).owed (t0_0 : Fin cfg0.N).castSucc = 0 from rfl, show (dats m 0 c).owed (t0_0 : Fin cfg0.N).succ = 0 from rfl]
  unfold owns before after
  iintro ⟨⟨HC, HT, HM, HWr⟩, ⟨%W, -, HW⟩, ⟨%d0, %g0, %hg0, H0⟩, ⟨%d1, %g1, %hg1, H1⟩, ⟨%d2, %g2, %hg2, H2⟩, ⟨%d3, %g3, %hg3, H3⟩⟩
  ihave H0' := (pointsTo_rep_entails (c : Thread nD τ) (st0_0 t0_0) g0 fullShare) $$ H0
  ihave H1' := (pointsTo_rep_entails (c : Thread nD τ) (st0_1 t0_0) g1 fullShare) $$ H1
  ihave H2' := (pointsTo_rep_entails (c : Thread nD τ) (st0_2 t0_0) g2 fullShare) $$ H2
  ihave H3' := (pointsTo_rep_entails (c : Thread nD τ) (st0_3 t0_0) g3 fullShare) $$ H3
  rw [hg0, hg1, hg2, hg3]
  sl_rw [prog_eq t0_0]
  iapply (bodyRun c (inC m c) (inT m c) (st0_0 t0_0) (hstage0_0 0) (st0_1 t0_0) (hstage0_1 0) (st0_2 t0_0) (hstage0_2 0) (st0_3 t0_0) (hstage0_3 0)
    ((st0_0 t0_0).view.rep (iblk m c 0 t0_0)) ((st0_1 t0_0).view.rep (iblk m c 1 t0_0)) ((st0_2 t0_0).view.rep (iblk m c 2 t0_0)) ((st0_3 t0_0).view.rep (iblk m c 3 t0_0)))
  isplitl [H0' H1' H2' H3' HC HT HM HWr HW]
  · isplitl [H0' H1' H2' H3']
    · isplitl [H0']; · iexact H0'
      isplitl [H1']; · iexact H1'
      isplitl [H2']; · iexact H2'
      iexact H3'
    isplitl [HC]; · iexact HC
    isplitl [HT]; · iexact HT
    isplitl [HM]; · iexact HM
    isplitl [HWr]; · iexact HWr
    iexists W; iexact HW
  · iintro ⟨⟨H0, H1, H2, H3⟩, HC, HT, HM, HWr, ⟨%W', HW⟩⟩
    isplitl [HC HT HM HWr]
    · isplitl [HC]; · iexact HC
      isplitl [HT]; · iexact HT
      isplitl [HM]; · iexact HM
      iexact HWr
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr; · ipureintro; exact View.read_rep _ _
    iexact H3

/-! ## The run -/

/-- A core's buffer, held whole. -/
abbrev at_ (c : Dev nD) (b : Ref sig .tc) (f : Buf (Elt F) ((c : Thread nD τ).loc b)) : sProp 𝕄 := ((c : Thread nD τ).loc b) ↦{fullShare} f

/-- What the region's invariant takes at entry; -/
def entry (c : Dev nD) : sProp 𝕄 :=
  iprop((at_ c main_arg0 (inC m c) ∗ at_ c main_arg1 (inT m c) ∗ at_ c main_v2_0 (V m c main_v2_0) ∗ at_ c main_v2_1 (V m c main_v2_1)) ∗ Pipeline.ownSems0 osem c)
/-- what it gives back; -/
def exit (c : Dev nD) : sProp 𝕄 :=
  iprop(at_ c main_arg0 (inC m c) ∗ at_ c main_arg1 (inT m c)
    ∗ (∃ X, ⌜∀ b, (mblk b).view.read (Elt F) X = outM m c b⌝ ∗ at_ c main_v2_0 X) ∗ (∃ X, ⌜∀ b, (wblk b).view.read (Elt F) X = outW m c b⌝ ∗ at_ c main_v2_1 X))
/-- and what goes past it. -/
def past (c : Dev nD) : sProp 𝕄 :=
  iprop(at_ c main_arg3 (m ((c : Thread nD τ).loc main_arg3)) ∗ at_ c main_arg5 (m ((c : Thread nD τ).loc main_arg5)))

theorem enter (c : Dev nD) : iprop(entry m c ∗ Pipeline.scopedRest spec0 c) ⊢ (before m c : sProp 𝕄) := by
  rw [scopedRest0_eq]
  unfold entry before; rw [ownSems0_eq]
  iintro ⟨⟨⟨HC, HT, HM, HW⟩, Hc0, Hc1, Ht0, Ht1, Hm0, Hm1, Hw0, Hw1⟩, Bc, Bt, Bm, Bw⟩
  isplitl [HC Bc Hc0 Hc1]
  · iapply (rest_in c csem cM (Memref.isWhole_whole _) cB (Memref.isWhole_whole _) (inC m c))
    isplitl [HC]; · iexact HC
    isplitl [Bc]; · iexact Bc
    isplitl [Hc0]; · iexact Hc0
    iexact Hc1
  isplitl [HT Bt Ht0 Ht1]
  · iapply (rest_in c tsem tM (Memref.isWhole_whole _) tB (Memref.isWhole_whole _) (inT m c))
    isplitl [HT]; · iexact HT
    isplitl [Bt]; · iexact Bt
    isplitl [Ht0]; · iexact Ht0
    iexact Ht1
  isplitl [HM Bm Hm0 Hm1]
  · iapply (rest_out c msem mM (Memref.isWhole_whole _) mB (Memref.isWhole_whole _) (V m c main_v2_0))
    isplitl [HM]; · iexact HM
    isplitl [Bm]; · iexact Bm
    isplitl [Hm0]; · iexact Hm0
    iexact Hm1
  · iapply (rest_out c wsem wM (Memref.isWhole_whole _) wB (Memref.isWhole_whole _) (V m c main_v2_1))
    isplitl [HW]; · iexact HW
    isplitl [Bw]; · iexact Bw
    isplitl [Hw0]; · iexact Hw0
    iexact Hw1

theorem leave (c : Dev nD) : (after m c : sProp 𝕄) ⊢ iprop(exit m c ∗ Pipeline.ownSems0 osem c ∗ Pipeline.scopedRest spec0 c) := by
  rw [scopedRest0_eq, ownSems0_eq]
  unfold exit after
  iintro ⟨HC, HT, HM, HW⟩
  ihave HC' := (show CIdle c (inC m c) ⊢ _ from rest_in_end c csem cM (Memref.isWhole_whole _) cB (Memref.isWhole_whole _) (inC m c)) $$ HC
  ihave HT' := (show TIdle c (inT m c) ⊢ _ from rest_in_end c tsem tM (Memref.isWhole_whole _) tB (Memref.isWhole_whole _) (inT m c)) $$ HT
  ihave HM' := (show Idle c msem mslot (done c mblk (outM m c)) ⊢ _ from rest_out_end c msem mM (Memref.isWhole_whole _) mB (Memref.isWhole_whole _) (outM m c)) $$ HM
  ihave HW' := (show Idle c wsem wslot (done c wblk (outW m c)) ⊢ _ from rest_out_end c wsem wM (Memref.isWhole_whole _) wB (Memref.isWhole_whole _) (outW m c)) $$ HW
  icases HC' with ⟨HC, Bc, Hc0, Hc1⟩
  icases HT' with ⟨HT, Bt, Ht0, Ht1⟩
  icases HM' with ⟨HM, Bm, Hm0, Hm1⟩
  icases HW' with ⟨HW, Bw, Hw0, Hw1⟩
  isplitl [HC HT HM HW]
  · isplitl [HC]; · iexact HC
    isplitl [HT]; · iexact HT
    isplitl [HM]; · iexact HM
    iexact HW
  isplitl [Hc0 Hc1 Ht0 Ht1 Hm0 Hm1 Hw0 Hw1]
  · isplitl [Hc0]; · iexact Hc0
    isplitl [Hc1]; · iexact Hc1
    isplitl [Ht0]; · iexact Ht0
    isplitl [Ht1]; · iexact Ht1
    isplitl [Hm0]; · iexact Hm0
    isplitl [Hm1]; · iexact Hm1
    isplitl [Hw0]; · iexact Hw0
    iexact Hw1
  isplitl [Bc]; · iexact Bc
  isplitl [Bt]; · iexact Bt
  isplitl [Bm]; · iexact Bm
  iexact Bw

/-- The arrays no operand stages, at the end: both inputs and both biases as launched, every block of both results at
    its value. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg3) = m ((c : Thread nD τ).loc main_arg3)
  ∧ s.mem ((c : Thread nD τ).loc main_arg5) = m ((c : Thread nD τ).loc main_arg5)
  ∧ (∀ b, (mblk b).view.read (Elt F) (s.mem ((c : Thread nD τ).loc main_v2_0)) = outM m c b)
  ∧ (∀ b, (wblk b).view.read (Elt F) (s.mem ((c : Thread nD τ).loc main_v2_1)) = outW m c b)

theorem read_back (c : Dev nD) (s' : Phys nD τ sig (Elt F)) :
    iprop(exit m c ∗ past m c ∗ SI (Ix := Unit) (Name := ℕ) (U := UU nD τ) (Lvl := ℕ) s') ⊢ (iprop(|={Set.univ}=> (⌜Ends m c s'.mem⌝ ∗ SI s')) : sProp 𝕄) := by
  unfold exit past
  iintro ⟨⟨H0, H1, ⟨%XM, %hM, HM⟩, ⟨%XW, %hW, HW⟩⟩, ⟨H3, H5⟩, HSI⟩
  icombine HSI H0 gives %h0
  icombine HSI H1 gives %h1
  icombine HSI H3 gives %h3
  icombine HSI H5 gives %h5
  icombine HSI HM gives %h6
  icombine HSI HW gives %h7
  imodintro
  isplitr
  · ipureintro
    refine ⟨Buf.eq_of_forall_mem_univ h0, Buf.eq_of_forall_mem_univ h1, Buf.eq_of_forall_mem_univ h3, Buf.eq_of_forall_mem_univ h5, ?_, ?_⟩
    · rw [Buf.eq_of_forall_mem_univ h6]; exact hM
    · rw [Buf.eq_of_forall_mem_univ h7]; exact hW
  iexact HSI

def u₀ : UU nD τ := (initOf (Pipeline.cells cfgs cellOf_inj) (Pipeline.launchToks cfgs cellOf_inj), 1)

/-- What a finished run's memory holds. -/
def Finished : PUnit × MemSt nD τ sig (Elt F) → Prop := fun r =>
  (∀ c : Dev nD, r.2.mem ((c : Thread nD τ).loc main_arg2) = m ((c : Thread nD τ).loc main_arg2)
    ∧ r.2.mem ((c : Thread nD τ).loc main_arg4) = m ((c : Thread nD τ).loc main_arg4) ∧ Ends m c r.2)
  ∧ r.2.sem = fun _ => 0

theorem arr_in (c : Dev nD) (w : Fin cfg0.W) (hw : (cfg0.win w).isOut = false) :
    (dats m 0 c).arrAt w cfg0.N = V m c (Pipeline.arrRef spec0 w) := (dats (F := F) m 0 c).arrAt_in w hw _

set_option backward.isDefEq.respectTransparency.types false in
/-- From any memory with every semaphore at zero, every run of the program ends, with the six arguments unchanged, every
    block of both results at its value and every semaphore at zero. -/
theorem run_main : θ_run defs (onTc (τ := τ) (main (F := F))) (s₀ m ρ) (Finished m) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (entails_of_eq (BI.bigSep_emp_const (Finset.univ : Finset (Dev nD))).symm)
      iempintro)
    (V := V m)
    (hmain := Pipeline.hmain_prefix cfgs 0 defs₀ 𝒱₀ m main hostOps0 hostOps0_sub hostOps0_fresh main_chain)
    (hA := fun _ _ => rfl)
    (X := entry m) (Y := exit m) (Z := past m)
    (hX := fun c => by
      rw [unscopedRest0_eq, V_main_arg0, V_main_arg1, V_main_arg3, V_main_arg5]
      unfold entry past
      iintro ⟨⟨H0, H1, H3, H5, HM, HW⟩, HS, -, -, -⟩; imodintro
      isplitl [H0 H1 HM HW HS]
      · isplitl [H0 H1 HM HW]
        · isplitl [H0]; · iexact H0
          isplitl [H1]; · iexact H1
          isplitl [HM]; · iexact HM
          iexact HW
        iexact HS
      isplitl [H3]; · iexact H3
      iexact H5)
    (hin := fun c => by rw [Φ_first m c 0 rfl]; exact enter m c)
    (hout := fun c => by rw [Φ_last m c (Fin.last cfg0.N) (by show grid0.N ≠ 0; rw [N_0]; decide)]; exact leave m c)
    (QY := Ends m)
    (hY := fun c s' => read_back m c s')
    (hQ := fun s hh hz => ⟨fun c => ⟨((hh c).1 0).trans ((arr_in m c 0 rfl).trans (V_main_arg2 m c)),
      ((hh c).1 2).trans ((arr_in m c 2 rfl).trans (V_main_arg4 m c)), (hh c).2⟩, hz⟩)

end Run

end Cert.Proof.Gate

end
-- ==== Proof.Frames.lean ====
/-
  The frames: each program ends without fault, its six arguments unchanged and every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof.Gate

open Idealize.ShloMosaic Idealize.ShloMosaic.TcCoe Idealize.SL.Sem

/-- The idealized kernel's frame, at any reading of the floats. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono
    (fun _ h => ⟨fun c => ⟨(h.1 c).2.2.1, (h.1 c).2.2.2.1, (h.1 c).1, (h.1 c).2.2.2.2.1, (h.1 c).2.1, (h.1 c).2.2.2.2.2.1⟩, h.2⟩) (run_main (F := F) m ρ)

/-- The printed kernel and the idealized one have the same table of kernels. -/
theorem defs_eq : Cert.Kernel.defs (F := Bits) = Cert.KernelIdeal.defs (F := Bits) := by sl_kernel_rfl

/-- The printed kernel's host program is the idealized one's. -/
theorem main_eq : Cert.Kernel.main (F := Bits) = Cert.KernelIdeal.main (F := Bits) := by sl_kernel_rfl

/-- The printed kernel's frame: its text is the idealized one's, so one run at the bits is its run. -/
theorem frame_kernel : Cert.quiescent_Kernel := fun m ρ _ => by
  rw [defs_eq, main_eq]
  exact frame_any (F := Bits) m ρ

/-- The idealized kernel's frame. -/
theorem frame_ideal : Cert.quiescent_KernelIdeal := fun m ρ _ => frame_any (F := Ideal) m ρ

/-- The reference's frame: its run, and it has no semaphore at all. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

end Cert.Proof.Gate

end
-- ==== Proof.Operands.lean ====
/-
  What the body loads of the two weights and the two biases: the arguments' own elements.
-/
module

public import proofs.«01_k».proof.Proof.Launch
public import Idealize.ShloMosaic.Lib.Pipeline.ValueKit.Point
public import Idealize.ShloMosaic.Lib.Claim

@[expose] public section

noncomputable section

namespace Cert.Proof.Gate

open Cert.KernelIdeal Cert.KernelIdeal.Gen
open Idealize.ShloMosaic Idealize.ShloMosaic.TcCoe

variable {F : FTy → Type} [FloatOps F] (m : (ℓ : Loc nD τ sig) → Buf (Elt F) ℓ)

/-- Each of the four staged operands is one block, at its array's corner. -/
theorem corner :
    (∀ a, win0_0.index t0_0 a = 0) ∧ (∀ a, win0_1.index t0_0 a = 0) ∧ (∀ a, win0_2.index t0_0 a = 0) ∧ (∀ a, win0_3.index t0_0 a = 0) := by
  decide +kernel
/-- The first weight, -/
theorem opW1_apply (c : Dev nD) (i : Fin 128) (k : Fin 64) : opW1 m c (ix2 i k) = m ((c : Thread nD τ).loc main_arg2) (ix2 i k) := by
  unfold opW1 ld0
  rw [View.readAt_rep]
  blk_ext [iblk, V_main_arg2, corner.1]
  · simp [LoadRect.idx, Rect.unit]
  · simp [LoadRect.idx, Rect.unit]
/-- the first bias, -/
theorem opB1_apply (c : Dev nD) (k : Fin 64) : opB1 m c (ix2 0 k) = m ((c : Thread nD τ).loc main_arg3) (ix1 k) := by
  unfold opB1 k0_pay7 ld1
  rw [View.readAt_rep]
  pointwise
  blk_ext! [iblk, corner.2.1]
/-- the second weight -/
theorem opW2_apply (c : Dev nD) (i k : Fin 64) : opW2 m c (ix2 i k) = m ((c : Thread nD τ).loc main_arg4) (ix2 i k) := by
  unfold opW2 ld2
  rw [View.readAt_rep]
  blk_ext [iblk, V_main_arg4, corner.2.2.1]
  · simp [LoadRect.idx, Rect.unit]
  · simp [LoadRect.idx, Rect.unit]
/-- and the second bias. -/
theorem opB2_apply (c : Dev nD) (k : Fin 64) : opB2 m c (ix2 0 k) = m ((c : Thread nD τ).loc main_arg5) (ix1 k) := by
  unfold opB2 k0_pay8 ld1
  rw [View.readAt_rep]
  pointwise
  blk_ext! [iblk, corner.2.2.2]

end Cert.Proof.Gate

end
-- ==== Proof.Row.lean ====
/-
  One row of the gate over the extended reals: what both programs compute of a row of `c`, a row of `t`, the two weights
  and the two biases, and the one law of the extended reals that the mixing needs.
-/
module

public import Idealize.ShloMosaic.PureOps.Ideal
public import Idealize.ShloMosaic.PureOps.Ideal.Laws

@[expose] public section

noncomputable section

namespace Cert.Proof.Gate

open Idealize.ShloMosaic

/-- The exponential linear unit: the argument where it is positive, its exponential less one elsewhere. -/
def elu (h : EReal) : EReal := if 0 < h then h else Ideal.exp h - 1

/-- The unit written with the exponential of the smaller of the argument and zero is the same, -/
theorem elu_min (h : EReal) : (if 0 < h then h else Ideal.exp (min h 0) - 1) = elu h := by
  unfold elu
  split
  · rfl
  · next hn => rw [min_eq_left (not_lt.1 hn)]
/-- and so is the unit written with a guarded argument. -/
theorem elu_guarded (h : EReal) : (if 0 < h then h else Ideal.exp (if 0 < h then 0 else h) - 1) = elu h := by
  unfold elu
  split <;> rfl

section Row
variable (c t : Fin 64 → EReal) (W1 : Fin 128 → Fin 64 → EReal) (b1 : Fin 64 → EReal) (W2 : Fin 64 → Fin 64 → EReal) (b2 : Fin 64 → EReal)

/-- The first layer's sum at output `k`: the row of `c` against the upper half of the weight, the row of `t` against the
    lower half, and the bias. -/
def hid (k : Fin 64) : EReal :=
  ((∑ i : Fin 64, c i * W1 ⟨i.val, by omega⟩ k) + ∑ i : Fin 64, t i * W1 ⟨64 + i.val, by omega⟩ k) + b1 k
/-- The gate at output `d`: the logistic function of the second layer's sum. -/
def gate (d : Fin 64) : EReal := Ideal.logistic ((∑ k : Fin 64, elu (hid c t W1 b1 k) * W2 k d) + b2 d)
/-- The mixed feature, as the kernel writes it. -/
def mixed (d : Fin 64) : EReal := t d + (c d - t d) * gate c t W1 b1 W2 b2 d
end Row

/-- An exponential is at least zero. -/
theorem exp_nonneg (x : EReal) : 0 ≤ Ideal.exp x := by
  induction x with
  | bot => exact le_refl (0 : EReal)
  | top => exact le_top
  | coe r => exact EReal.coe_nonneg.2 (Real.exp_pos r).le

/-- The logistic function's value is a real number between zero and one. -/
theorem logistic_real (x : EReal) : ∃ w : ℝ, 0 ≤ w ∧ w ≤ 1 ∧ Ideal.logistic x = (w : EReal) := by
  have key : ∀ e : EReal, 0 ≤ e → ∃ w : ℝ, 0 ≤ w ∧ w ≤ 1 ∧ Ideal.div 1 (1 + e) = (w : EReal) := by
    intro e he
    induction e with
    | bot => exact absurd he (by simp)
    | top =>
      have h1 : (1 : EReal) + ⊤ = ⊤ := EReal.coe_add_top 1
      exact ⟨0, le_rfl, zero_le_one, by rw [h1, Ideal.div, if_neg EReal.top_ne_zero]; simp⟩
    | coe r =>
      have hr : (0 : ℝ) ≤ r := by exact_mod_cast he
      refine ⟨(1 + r)⁻¹, by positivity, inv_le_one_of_one_le₀ (by linarith), ?_⟩
      have hne : (1 : EReal) + (r : EReal) ≠ 0 := by
        have : ((1 + r : ℝ) : EReal) ≠ 0 := by exact_mod_cast (by linarith : (1 + r : ℝ) ≠ 0)
        simpa using this
      rw [Ideal.div, if_neg hne, one_mul]
      norm_cast
  exact key _ (exp_nonneg _)

/-- Mixing towards a finite `t`: `t` plus `w` of the way to `c`, for any `c`, is `c` weighted by `w` plus `t` weighted
    by the rest. -/
theorem mix_law (c : EReal) (t w : ℝ) (h0 : 0 ≤ w) (h1 : w ≤ 1) :
    c * (w : EReal) + (t : EReal) * (1 - (w : EReal)) = (t : EReal) + (c - (t : EReal)) * (w : EReal) := by
  have e1 : (1 : EReal) - (w : EReal) = ((1 - w : ℝ) : EReal) := by norm_cast
  rw [e1, ← EReal.coe_mul]
  induction c with
  | coe r =>
    have : r * w + t * (1 - w) = t + (r - t) * w := by ring
    exact_mod_cast congrArg (fun z : ℝ => (z : EReal)) this
  | top =>
    rw [EReal.top_sub_coe]
    rcases h0.eq_or_lt with rfl | h
    · simp
    · rw [EReal.top_mul_coe_of_pos h, EReal.top_add_coe, EReal.coe_add_top]
  | bot =>
    rw [EReal.bot_sub]
    rcases h0.eq_or_lt with rfl | h
    · simp
    · rw [EReal.bot_mul_coe_of_pos h, EReal.bot_add, EReal.add_bot]

end Cert.Proof.Gate

end
-- ==== Proof.BlockValue.lean ====
/-
  What a block of each result holds over the extended reals, row by row.
-/
module

public import proofs.«01_k».proof.Proof.Blocks
public import proofs.«01_k».proof.Proof.Row
public import Idealize.ShloMosaic.Lib.Pointwise

@[expose] public section

noncomputable section

namespace Cert.Proof.Gate

open Cert.KernelIdeal Cert.KernelIdeal.Gen
open Idealize.ShloMosaic

variable (x t : S8000x64.Idx → EReal)
  (v0 : S128x64.Idx → EReal) (v2 : S1x64.Idx → EReal) (v3 : S64x64.Idx → EReal) (v5 : S1x64.Idx → EReal)

/-- A row of the gate's block is the gate of the two input rows. -/
theorem gateOf_apply (r : Fin 8000) (d : Fin 64) :
    gateOf (F := Ideal) x t v0 v2 v3 v5 (ix2 r d)
      = gate (fun k => x (ix2 r k)) (fun k => t (ix2 r k)) (fun i k => v0 (ix2 i k)) (fun k => v2 (ix2 0 k))
          (fun i k => v3 (ix2 i k)) (fun k => v5 (ix2 0 k)) d := by
  pointwise [gateOf, k0_pay3, k0_pay1, k0_pay2]
  refine congrArg Ideal.logistic (congrArg (· + _) (Finset.sum_congr rfl fun k _ => congrArg (· * _) ?_))
  exact elu_min _

/-- A row of the mixed result's block is the mix of the two input rows. -/
theorem mixOf_apply (r : Fin 8000) (d : Fin 64) :
    mixOf (F := Ideal) x t v0 v2 v3 v5 (ix2 r d)
      = mixed (fun k => x (ix2 r k)) (fun k => t (ix2 r k)) (fun i k => v0 (ix2 i k)) (fun k => v2 (ix2 0 k))
          (fun i k => v3 (ix2 i k)) (fun k => v5 (ix2 0 k)) d := by
  pointwise [mixOf, k0_pay5, k0_pay1, k0_pay2]
  exact congrArg (fun g => t (ix2 r d) + (x (ix2 r d) - t (ix2 r d)) * g) (gateOf_apply x t v0 v2 v3 v5 r d)

end Cert.Proof.Gate

end
-- ==== Proof.Whole.lean ====
/-
  Rows and blocks: where a row of a block lies in its array, and an array known from its blocks.
-/
module

public import proofs.«01_k».proof.Proof.Names
public import Idealize.ShloMosaic.Lib.Pointwise

@[expose] public section

noncomputable section

namespace Cert.Proof.Gate

open Cert.KernelIdeal Cert.KernelIdeal.Gen
open Idealize.ShloMosaic

/-- The place in the array of place `(r, d)` of block `b`: the array's row `8000 * b + r`, counted through both leading axes. -/
def place (b : Fin 50) (r : Fin 8000) (d : Fin 64) : S4x100000x64.Idx :=
  ix3 ⟨(8000 * b.val + r.val) / 100000, by omega⟩ ⟨(8000 * b.val + r.val) % 100000, by omega⟩ d

/-- Every place of the array is one of some block. -/
theorem exists_place (j : S4x100000x64.Idx) : ∃ b r d, place b r d = j := by
  have h0 : (j 0).val < 4 := (j 0).isLt
  have h1 : (j 1).val < 100000 := (j 1).isLt
  refine ⟨⟨(100000 * (j 0).val + (j 1).val) / 8000, by omega⟩, ⟨(100000 * (j 0).val + (j 1).val) % 8000, by omega⟩, j 2, ?_⟩
  unfold place
  funext a
  match a with
  | 0 => apply Fin.ext; show (8000 * ((100000 * (j 0).val + (j 1).val) / 8000) + (100000 * (j 0).val + (j 1).val) % 8000) / 100000 = (j 0).val; omega
  | 1 => apply Fin.ext; show (8000 * ((100000 * (j 0).val + (j 1).val) / 8000) + (100000 * (j 0).val + (j 1).val) % 8000) % 100000 = (j 1).val; omega
  | 2 => rfl

variable {F : FTy → Type} [FloatOps F]

/-- A row of the array with its two leading axes as one, numbered from a block's first. -/
theorem flat_apply (X : S4x100000x64.Idx → Elt F .f32) (h : S4x100000x64.ShapeCasts S400000x64) (b : Fin 50) (r : Fin 8000) (d : Fin 64) :
    shapeCast S400000x64 X h (ix2 ⟨8000 * b.val + r.val, by omega⟩ d) = X (place b r d) := by
  pointwise [place]

/-- A block's rows are consecutive rows of that array. -/
theorem block_row (b : Fin 50) (r : Fin 8000) (d : Fin 64) :
    (Rect.unit (s := S400000x64) (blkOff b) S8000x64.size (blkOff_inb b)).emb (ix2 r d) = ix2 ⟨8000 * b.val + r.val, by omega⟩ d := by
  funext a
  match a with
  | 0 => apply Fin.ext; simp
  | 1 => apply Fin.ext; simp

/-- A block of `c` read at a place, -/
theorem cblk_read (X : S4x100000x64.Idx → Elt F .f32) (b : Fin 50) (r : Fin 8000) (d : Fin 64) :
    (cblk b).view.read (Elt F) X (ix2 r d) = X (place b r d) :=
  (congrArg (shapeCast S400000x64 X (by decide)) (block_row b r d)).trans (flat_apply X _ b r d)
/-- a block of `t`, -/
theorem tblk_read (X : S4x100000x64.Idx → Elt F .f32) (b : Fin 50) (r : Fin 8000) (d : Fin 64) :
    (tblk b).view.read (Elt F) X (ix2 r d) = X (place b r d) :=
  (congrArg (shapeCast S400000x64 X (by decide)) (block_row b r d)).trans (flat_apply X _ b r d)
/-- a block of the mixed result -/
theorem mblk_read (X : S4x100000x64.Idx → Elt F .f32) (b : Fin 50) (r : Fin 8000) (d : Fin 64) :
    (mblk b).view.read (Elt F) X (ix2 r d) = X (place b r d) :=
  (congrArg (shapeCast S400000x64 X (by decide)) (block_row b r d)).trans (flat_apply X _ b r d)
/-- and a block of the gate. -/
theorem wblk_read (X : S4x100000x64.Idx → Elt F .f32) (b : Fin 50) (r : Fin 8000) (d : Fin 64) :
    (wblk b).view.read (Elt F) X (ix2 r d) = X (place b r d) :=
  (congrArg (shapeCast S400000x64 X (by decide)) (block_row b r d)).trans (flat_apply X _ b r d)

end Cert.Proof.Gate

end
-- ==== Proof.Reference.lean ====
/-
  What the reference's two results are over the extended reals, row by row.
-/
module

public import proofs.«01_k».proof.Proof.Gen.ReferenceIdeal.Run
public import proofs.«01_k».proof.Proof.Row
public import Idealize.ShloMosaic.Lib.Pointwise

@[expose] public section

noncomputable section

namespace Cert.Proof.Gate.Ref

open Cert.ReferenceIdeal Cert.ReferenceIdeal.Gen
open Idealize.ShloMosaic Idealize.ShloMosaic.TcCoe Idealize.SL.Sem

section Arrays
variable (c t : FVec Ideal S4x100000x64 .f32) (W1 : FVec Ideal S128x64 .f32) (b1 : FVec Ideal S64 .f32) (W2 : FVec Ideal S64x64 .f32)
  (b2 : FVec Ideal S64 .f32)

/-- A float word at every place of the array. -/
abbrev splat (b : BitVec 32) : FVec Ideal S4x100000x64 .f32 := broadcastInDim S4x100000x64 ![] bcast_S_S4x100000x64 (constant S_ .f32 b)
/-- A bias at every row. -/
abbrev spread (b : FVec Ideal S64 .f32) : FVec Ideal S4x100000x64 .f32 :=
  broadcastInDim S4x100000x64 ![0, 1, 2] bcast_S1x1x64_S4x100000x64_0_1_2 (broadcastInDim S1x1x64 ![2] bcast_S64_S1x1x64_2 b)
/-- The first layer, before its unit: the two arrays side by side against the whole weight, and the bias. -/
def layer1 : FVec Ideal S4x100000x64 .f32 :=
  addf (Host.dotGeneral dot_S4x100000x128_S128x64_S4x100000x64_2_0_01_1_n_n none
    (concatenate S4x100000x128 2 [⟨S4x100000x64, c⟩, ⟨S4x100000x64, t⟩] concatenates_S4x100000x64_S4x100000x64_S4x100000x128_d2) W1) (spread b1)
/-- The unit as the reference computes it of an array. -/
def unit (h : FVec Ideal S4x100000x64 .f32) : FVec Ideal S4x100000x64 .f32 :=
  select (cmpf .ogt h (splat 0x00000000#32)) h
    (mulf (splat 0x3F800000#32) (Host.expm1 (select (cmpf .ogt h (splat 0x00000000#32)) (splat 0x00000000#32) h)))
/-- The gate as the reference computes it of the first layer's units. -/
def sigmoid (u : FVec Ideal S4x100000x64 .f32) : FVec Ideal S4x100000x64 .f32 :=
  Host.divf (splat 0x3F800000#32) (addf (splat 0x3F800000#32)
    (Host.exp (Host.negf (addf (Host.dotGeneral dot_S4x100000x64_S64x64_S4x100000x64_2_0_01_1_n_n none u W2) (spread b2)))))
/-- The reference's gate. -/
def gateTerm : FVec Ideal S4x100000x64 .f32 := sigmoid W2 b2 (unit (layer1 c t W1 b1))
/-- The reference's mix of two arrays by an array of gates. -/
def mixTerm (w : FVec Ideal S4x100000x64 .f32) : FVec Ideal S4x100000x64 .f32 :=
  addf (mulf c w) (mulf t (subf (splat 0x3F800000#32) w))

theorem layer1_apply (i : Fin 4) (n : Fin 100000) (k : Fin 64) :
    layer1 c t W1 b1 (ix3 i n k)
      = hid (fun l => c (ix3 i n l)) (fun l => t (ix3 i n l)) (fun l k => W1 (ix2 l k)) (fun k => b1 (ix1 k)) k := by
  pointwise [layer1]
  rfl
theorem unit_apply (h : FVec Ideal S4x100000x64 .f32) (j : S4x100000x64.Idx) : unit h j = elu (h j) := by
  pointwise [unit]
  exact elu_guarded _
theorem sigmoid_apply (u : FVec Ideal S4x100000x64 .f32) (i : Fin 4) (n : Fin 100000) (d : Fin 64) :
    sigmoid W2 b2 u (ix3 i n d) = Ideal.logistic ((∑ k : Fin 64, u (ix3 i n k) * W2 (ix2 k d)) + b2 (ix1 d)) := by
  pointwise [sigmoid]
  rfl
/-- Every row of the reference's gate is the gate of its two input rows. -/
theorem gateTerm_apply (i : Fin 4) (n : Fin 100000) (d : Fin 64) :
    gateTerm c t W1 b1 W2 b2 (ix3 i n d)
      = gate (fun l => c (ix3 i n l)) (fun l => t (ix3 i n l)) (fun l k => W1 (ix2 l k)) (fun k => b1 (ix1 k))
          (fun l k => W2 (ix2 l k)) (fun k => b2 (ix1 k)) d := by
  rw [gateTerm, sigmoid_apply]
  simp only [unit_apply, layer1_apply]
  rfl
/-- Where `t` is finite, every row of the reference's mix is the mix of its two input rows. -/
theorem mixTerm_apply (ht : ∀ j, ∃ x : ℝ, t j = (x : EReal)) (i : Fin 4) (n : Fin 100000) (d : Fin 64) :
    mixTerm c t (gateTerm c t W1 b1 W2 b2) (ix3 i n d)
      = mixed (fun l => c (ix3 i n l)) (fun l => t (ix3 i n l)) (fun l k => W1 (ix2 l k)) (fun k => b1 (ix1 k))
          (fun l k => W2 (ix2 l k)) (fun k => b2 (ix1 k)) d := by
  pointwise [mixTerm]
  rw [gateTerm_apply, mixed]
  obtain ⟨w, h0, h1, hw⟩ := logistic_real ((∑ k : Fin 64, elu (hid (fun l => c (ix3 i n l)) (fun l => t (ix3 i n l)) (fun l k => W1 (ix2 l k))
    (fun k => b1 (ix1 k)) k) * W2 (ix2 k d)) + b2 (ix1 d))
  obtain ⟨x, hx⟩ := ht (ix3 i n d)
  rw [gate, hw, hx]
  exact mix_law _ x w h0 h1
end Arrays

variable (m : (ℓ : Loc nD τ sig) → Buf (Elt Ideal) ℓ)

/-- Device `d`'s gate, of its launch contents. -/
abbrev gates (d : Dev nD) : FVec Ideal S4x100000x64 .f32 :=
  gateTerm (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)) (m ((d.tc : Thread nD τ).loc main_arg5))
/-- Device `d`'s mix, of its launch contents. -/
abbrev mixes (d : Dev nD) : FVec Ideal S4x100000x64 .f32 :=
  mixTerm (m ((d.tc : Thread nD τ).loc main_arg0)) (m ((d.tc : Thread nD τ).loc main_arg1)) (gates m d)

/-- The reference ends with its mix and its gate in the result arrays, and its arguments unchanged. -/
theorem run_values (ρ : Dev nD → PrngReg) :
    θ_run defs (onTc (τ := τ) (main (F := Ideal))) ⟨m, fun _ => 0, ρ⟩ fun r => ∀ d : Dev nD,
      r.2.mem ((d.tc : Thread nD τ).loc main_v20) = mixes m d
      ∧ r.2.mem ((d.tc : Thread nD τ).loc main_v15) = gates m d
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5) :=
  (θ_run defs _ _).mono (fun _ h d => ⟨(h d).1.trans rfl, (h d).2.1.trans rfl, (h d).2.2⟩) (Cert.ReferenceIdeal.Value.run (F := Ideal) m ρ)

end Cert.Proof.Gate.Ref

end
-- ==== Proof.Equal.lean ====
/-
  The value claim: over the extended reals the kernel's two results are the reference's, wherever `t` is finite.
-/
module

public import proofs.«01_k».proof.Defs
public import proofs.«01_k».proof.Proof.Operands
public import proofs.«01_k».proof.Proof.BlockValue
public import proofs.«01_k».proof.Proof.Whole
public import proofs.«01_k».proof.Proof.Reference

@[expose] public section

noncomputable section

namespace Cert.Proof.Gate

open Cert.KernelIdeal Cert.KernelIdeal.Gen
open Idealize.ShloMosaic Idealize.ShloMosaic.TcCoe Idealize.SL.Sem

section Kernel
variable (m : (ℓ : Loc nD τ sig) → Buf (Elt Ideal) ℓ)

/-- The reference's gate of the kernel's launch contents, -/
abbrev gates (c : Dev nD) : FVec Ideal S4x100000x64 .f32 :=
  Ref.gateTerm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
/-- and its mix. -/
abbrev mixes (c : Dev nD) : FVec Ideal S4x100000x64 .f32 :=
  Ref.mixTerm (m ((c : Thread nD τ).loc main_arg0)) (m ((c : Thread nD τ).loc main_arg1)) (gates m c)

/-- A row of the gate's block is the reference's row at that place; -/
theorem outW_apply (c : Dev nD) (b : Fin 50) (r : Fin 8000) (d : Fin 64) : outW m c b (ix2 r d) = gates m c (place b r d) := by
  refine (gateOf_apply _ _ _ _ _ _ r d).trans ?_
  simp only [cblk_read, tblk_read, opW1_apply, opB1_apply, opW2_apply, opB2_apply, inC, inT]
  exact (Ref.gateTerm_apply _ _ _ _ _ _ _ _ d).symm
/-- so is a row of the mixed result's, where `t` is finite. -/
theorem outM_apply (c : Dev nD) (ht : ∀ j, ∃ x : ℝ, m ((c : Thread nD τ).loc main_arg1) j = (x : EReal)) (b : Fin 50) (r : Fin 8000) (d : Fin 64) :
    outM m c b (ix2 r d) = mixes m c (place b r d) := by
  refine (mixOf_apply _ _ _ _ _ _ r d).trans ?_
  simp only [cblk_read, tblk_read, opW1_apply, opB1_apply, opW2_apply, opB2_apply, inC, inT]
  exact (Ref.mixTerm_apply _ _ _ _ _ _ ht _ _ d).symm

/-- An array whose blocks are the gate's blocks is the reference's gate; -/
theorem gates_of_blocks (c : Dev nD) (X : S4x100000x64.Idx → EReal) (h : ∀ b, (wblk b).view.read (Elt Ideal) X = outW m c b) : X = gates m c := by
  funext j
  obtain ⟨b, r, d, rfl⟩ := exists_place j
  exact (wblk_read (F := Ideal) X b r d).symm.trans ((congrFun (h b) _).trans (outW_apply m c b r d))
/-- one whose blocks are the mixed result's is the reference's mix. -/
theorem mixes_of_blocks (c : Dev nD) (ht : ∀ j, ∃ x : ℝ, m ((c : Thread nD τ).loc main_arg1) j = (x : EReal)) (X : S4x100000x64.Idx → EReal)
    (h : ∀ b, (mblk b).view.read (Elt Ideal) X = outM m c b) : X = mixes m c := by
  funext j
  obtain ⟨b, r, d, rfl⟩ := exists_place j
  exact (mblk_read (F := Ideal) X b r d).symm.trans ((congrFun (h b) _).trans (outM_apply m c ht b r d))
end Kernel

/-- The side conditions of the precondition's program. -/
theorem finite_facts : Cert.Pre_t_finite.Facts := ⟨by decide⟩

/-- What the precondition says of the array `t`: each of its elements is a real. -/
theorem real_of_finite (c t : FVec Ideal S4x100000x64 .f32) (W1 : FVec Ideal S128x64 .f32) (b1 : FVec Ideal S64 .f32)
    (W2 : FVec Ideal S64x64 .f32) (b2 : FVec Ideal S64 .f32)
    (h : @Cert.Pre_t_finite.fn finite_facts Ideal _ c t W1 b1 W2 b2 = fun _ => 1#1)
    (j : S4x100000x64.Idx) : ∃ x : ℝ, t j = (x : EReal) := by
  have e := congrFun h j
  have both : ∀ p q : Bool, BitVec.ofBool p &&& BitVec.ofBool q = 1#1 → p = true ∧ q = true := by decide
  obtain ⟨hlo, hhi⟩ := both _ _ e
  induction hx : t j using EReal.rec with
  | bot => exact absurd (hx ▸ of_decide_eq_true hlo) not_lt_bot
  | top => exact absurd (hx ▸ of_decide_eq_true hhi) not_top_lt
  | coe x => exact ⟨x, rfl⟩

/-- The value claim: the kernel's run by its blocks, the reference's by its text, on equal arguments. -/
theorem equal : @Cert.algebraic_KernelIdeal_ReferenceIdeal_pre_t_finite Cert.KernelIdeal.Gen.facts Cert.ReferenceIdeal.Gen.facts finite_facts := by
  intro m ρ m' ρ' hpre hargs
  have ht : ∀ (c : Dev nD) j, ∃ x : ℝ, m ((c.tc : Thread nD τ).loc main_arg1) j = (x : EReal) :=
    fun c => real_of_finite _ _ _ _ _ _ (hpre c)
  refine ⟨mixes m, gates m, (θ_run defs _ _).mono (fun r h c => ?_) (run_main (F := Ideal) m ρ),
    (θ_run Cert.ReferenceIdeal.defs _ _).mono (fun r h c => ?_) (Ref.run_values m' ρ')⟩
  · obtain ⟨h2, h4, h0, h1, h3, h5, hM, hW⟩ := h.1 c
    exact ⟨mixes_of_blocks m c (ht c) _ hM, gates_of_blocks m c _ hW, h0, h1, h2, h3, h4, h5⟩
  · obtain ⟨a0, a1, a2, a3, a4, a5⟩ := hargs c
    have hw : Ref.gates m' c = gates m c := by
      unfold Ref.gates gates
      rw [a0, a1, a2, a3, a4, a5]
    have hm : Ref.mixes m' c = mixes m c := by
      unfold Ref.mixes mixes
      rw [hw, a0, a1]
    exact ⟨(h c).1.trans hm, (h c).2.1.trans hw, (h c).2.2⟩

end Cert.Proof.Gate

end
-- ==== Proof.lean ====
/-
  The proof of `Cert.Claim`: the parts proved under Proof/, put together.
-/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

namespace Cert.Proof

/-- Everything claimed of the gated mixing: the frames, the idealization, and that both results are the reference's. The
    frames hold of every launch memory, so of those where `t` is finite too. -/
theorem claim : Cert.Claim :=
  ⟨Cert.Kernel.Gen.facts, Cert.KernelIdeal.Gen.facts, Cert.ReferenceIdeal.Gen.facts, Gate.finite_facts,
    Gate.frame_kernel, Gate.frame_ideal, fun m ρ _ => Gate.frame_ideal m ρ trivial,
    Gate.frame_reference, fun m ρ _ => Gate.frame_reference m ρ trivial, trivial, Gate.equal⟩

end Cert.Proof
